-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_in_range [hPre_tables_in_range : Cert.Pre_tables_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tables_in_range [hExpertsReferenceIdeal : Cert.ExpertsReferenceIdeal.Facts] [hPre_tables_in_range : Cert.Pre_tables_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9)
      ∧ r.2.mem ((c.tc : Thread Cert.OutprojReferenceIdeal.nD Cert.OutprojReferenceIdeal.τ).loc Cert.OutprojReferenceIdeal.main_arg10) = m ((c.tc : Thread Cert.OutprojReferenceIdeal.nD Cert.OutprojReferenceIdeal.τ).loc Cert.OutprojReferenceIdeal.main_arg10))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8)
      ∧ r.2.mem ((c.tc : Thread Cert.SsdReferenceIdeal.nD Cert.SsdReferenceIdeal.τ).loc Cert.SsdReferenceIdeal.main_arg9) = m ((c.tc : Thread Cert.SsdReferenceIdeal.nD Cert.SsdReferenceIdeal.τ).loc Cert.SsdReferenceIdeal.main_arg9)
      ∧ r.2.mem ((c.tc : Thread Cert.SsdReferenceIdeal.nD Cert.SsdReferenceIdeal.τ).loc Cert.SsdReferenceIdeal.main_arg10) = m ((c.tc : Thread Cert.SsdReferenceIdeal.nD Cert.SsdReferenceIdeal.τ).loc Cert.SsdReferenceIdeal.main_arg10))
      ∧ r.2.sem = fun _ => 0)

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v21_0)) (v1 : (c : Dev Cert.InprojIdeal.nD) → Buf (Elt Ideal) ((c.tc : Thread Cert.InprojIdeal.nD Cert.InprojIdeal.τ).loc Cert.InprojIdeal.main_v21_1)) (v2 : (c : Dev Cert.InprojIdeal.nD) → Buf (Elt Ideal) ((c.tc : Thread Cert.InprojIdeal.nD Cert.InprojIdeal.τ).loc Cert.InprojIdeal.main_v21_2)) (v3 : (c : Dev Cert.InprojIdeal.nD) → Buf (Elt Ideal) ((c.tc : Thread Cert.InprojIdeal.nD Cert.InprojIdeal.τ).loc Cert.InprojIdeal.main_v21_3)) (v4 : (c : Dev Cert.InprojIdeal.nD) → Buf (Elt Ideal) ((c.tc : Thread Cert.InprojIdeal.nD Cert.InprojIdeal.τ).loc Cert.InprojIdeal.main_v21_4)) (v5 : (c : Dev Cert.InprojIdeal.nD) → Buf (Elt Ideal) ((c.tc : Thread Cert.InprojIdeal.nD Cert.InprojIdeal.τ).loc Cert.InprojIdeal.main_v21_5)) (v6 : (c : Dev Cert.InprojIdeal.nD) → Buf (Elt Ideal) ((c.tc : Thread Cert.InprojIdeal.nD Cert.InprojIdeal.τ).loc Cert.InprojIdeal.main_v21_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v21_0) = v0 c
          ∧ r.2.mem ((c.tc : Thread Cert.InprojIdeal.nD Cert.InprojIdeal.τ).loc Cert.InprojIdeal.main_v21_1) = v1 c
          ∧ r.2.mem ((c.tc : Thread Cert.InprojIdeal.nD Cert.InprojIdeal.τ).loc Cert.InprojIdeal.main_v21_2) = v2 c
          ∧ r.2.mem ((c.tc : Thread Cert.InprojIdeal.nD Cert.InprojIdeal.τ).loc Cert.InprojIdeal.main_v21_3) = v3 c
          ∧ r.2.mem ((c.tc : Thread Cert.InprojIdeal.nD Cert.InprojIdeal.τ).loc Cert.InprojIdeal.main_v21_4) = v4 c
          ∧ r.2.mem ((c.tc : Thread Cert.InprojIdeal.nD Cert.InprojIdeal.τ).loc Cert.InprojIdeal.main_v21_5) = v5 c
          ∧ r.2.mem ((c.tc : Thread Cert.InprojIdeal.nD Cert.InprojIdeal.τ).loc Cert.InprojIdeal.main_v21_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v24) = v0 c
          ∧ r.2.mem ((c.tc : Thread Cert.InprojReferenceIdeal.nD Cert.InprojReferenceIdeal.τ).loc Cert.InprojReferenceIdeal.main_v25) = v1 c
          ∧ r.2.mem ((c.tc : Thread Cert.InprojReferenceIdeal.nD Cert.InprojReferenceIdeal.τ).loc Cert.InprojReferenceIdeal.main_v27) = v2 c
          ∧ r.2.mem ((c.tc : Thread Cert.InprojReferenceIdeal.nD Cert.InprojReferenceIdeal.τ).loc Cert.InprojReferenceIdeal.main_v28) = v3 c
          ∧ r.2.mem ((c.tc : Thread Cert.InprojReferenceIdeal.nD Cert.InprojReferenceIdeal.τ).loc Cert.InprojReferenceIdeal.main_v29) = v4 c
          ∧ r.2.mem ((c.tc : Thread Cert.InprojReferenceIdeal.nD Cert.InprojReferenceIdeal.τ).loc Cert.InprojReferenceIdeal.main_v32) = v5 c
          ∧ r.2.mem ((c.tc : Thread Cert.InprojReferenceIdeal.nD Cert.InprojReferenceIdeal.τ).loc Cert.InprojReferenceIdeal.main_v35) = v6 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v15)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v9) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)
      ∧ m' ((c.tc : Thread Cert.OutprojReferenceIdeal.nD Cert.OutprojReferenceIdeal.τ).loc Cert.OutprojReferenceIdeal.main_arg8) = m ((c.tc : Thread Cert.OutprojIdeal.nD Cert.OutprojIdeal.τ).loc Cert.OutprojIdeal.main_arg8)
      ∧ m' ((c.tc : Thread Cert.OutprojReferenceIdeal.nD Cert.OutprojReferenceIdeal.τ).loc Cert.OutprojReferenceIdeal.main_arg9) = m ((c.tc : Thread Cert.OutprojIdeal.nD Cert.OutprojIdeal.τ).loc Cert.OutprojIdeal.main_arg9)
      ∧ m' ((c.tc : Thread Cert.OutprojReferenceIdeal.nD Cert.OutprojReferenceIdeal.τ).loc Cert.OutprojReferenceIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v11_0)) (v1 : (c : Dev Cert.OutprojIdeal.nD) → Buf (Elt Ideal) ((c.tc : Thread Cert.OutprojIdeal.nD Cert.OutprojIdeal.τ).loc Cert.OutprojIdeal.main_v11_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v11_0) = v0 c
          ∧ r.2.mem ((c.tc : Thread Cert.OutprojIdeal.nD Cert.OutprojIdeal.τ).loc Cert.OutprojIdeal.main_v11_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v29) = v0 c
          ∧ r.2.mem ((c.tc : Thread Cert.OutprojReferenceIdeal.nD Cert.OutprojReferenceIdeal.τ).loc Cert.OutprojReferenceIdeal.main_v30) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9)
          ∧ r.2.mem ((c.tc : Thread Cert.OutprojReferenceIdeal.nD Cert.OutprojReferenceIdeal.τ).loc Cert.OutprojReferenceIdeal.main_arg10) = m' ((c.tc : Thread Cert.OutprojReferenceIdeal.nD Cert.OutprojReferenceIdeal.τ).loc Cert.OutprojReferenceIdeal.main_arg10))

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)
      ∧ m' ((c.tc : Thread Cert.GmlpReferenceIdeal.nD Cert.GmlpReferenceIdeal.τ).loc Cert.GmlpReferenceIdeal.main_arg4) = m ((c.tc : Thread Cert.GmlpIdeal.nD Cert.GmlpIdeal.τ).loc Cert.GmlpIdeal.main_arg4)
      ∧ m' ((c.tc : Thread Cert.GmlpReferenceIdeal.nD Cert.GmlpReferenceIdeal.τ).loc Cert.GmlpReferenceIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v5_0)) (v1 : (c : Dev Cert.GmlpIdeal.nD) → Buf (Elt Ideal) ((c.tc : Thread Cert.GmlpIdeal.nD Cert.GmlpIdeal.τ).loc Cert.GmlpIdeal.main_v5_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v5_0) = v0 c
          ∧ r.2.mem ((c.tc : Thread Cert.GmlpIdeal.nD Cert.GmlpIdeal.τ).loc Cert.GmlpIdeal.main_v5_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v69) = v0 c
          ∧ r.2.mem ((c.tc : Thread Cert.GmlpReferenceIdeal.nD Cert.GmlpReferenceIdeal.τ).loc Cert.GmlpReferenceIdeal.main_v70) = v1 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def preserves_Ssd_SsdIdeal : Prop :=
  True

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)
      ∧ m' ((c.tc : Thread Cert.SsdReferenceIdeal.nD Cert.SsdReferenceIdeal.τ).loc Cert.SsdReferenceIdeal.main_arg5) = m ((c.tc : Thread Cert.SsdIdeal.nD Cert.SsdIdeal.τ).loc Cert.SsdIdeal.main_arg5)
      ∧ m' ((c.tc : Thread Cert.SsdReferenceIdeal.nD Cert.SsdReferenceIdeal.τ).loc Cert.SsdReferenceIdeal.main_arg6) = m ((c.tc : Thread Cert.SsdIdeal.nD Cert.SsdIdeal.τ).loc Cert.SsdIdeal.main_arg6)
      ∧ m' ((c.tc : Thread Cert.SsdReferenceIdeal.nD Cert.SsdReferenceIdeal.τ).loc Cert.SsdReferenceIdeal.main_arg7) = m ((c.tc : Thread Cert.SsdIdeal.nD Cert.SsdIdeal.τ).loc Cert.SsdIdeal.main_arg7)
      ∧ m' ((c.tc : Thread Cert.SsdReferenceIdeal.nD Cert.SsdReferenceIdeal.τ).loc Cert.SsdReferenceIdeal.main_arg8) = m ((c.tc : Thread Cert.SsdIdeal.nD Cert.SsdIdeal.τ).loc Cert.SsdIdeal.main_arg8)
      ∧ m' ((c.tc : Thread Cert.SsdReferenceIdeal.nD Cert.SsdReferenceIdeal.τ).loc Cert.SsdReferenceIdeal.main_arg9) = m ((c.tc : Thread Cert.SsdIdeal.nD Cert.SsdIdeal.τ).loc Cert.SsdIdeal.main_arg9)
      ∧ m' ((c.tc : Thread Cert.SsdReferenceIdeal.nD Cert.SsdReferenceIdeal.τ).loc Cert.SsdReferenceIdeal.main_arg10) = m ((c.tc : Thread Cert.SsdIdeal.nD Cert.SsdIdeal.τ).loc Cert.SsdIdeal.main_arg10)) →
    ∃ (v0 : (c : Dev Cert.SsdIdeal.nD) → Buf (Elt Ideal) ((c.tc : Thread Cert.SsdIdeal.nD Cert.SsdIdeal.τ).loc Cert.SsdIdeal.main_v16_1)) (v1 : (c : Dev Cert.SsdIdeal.nD) → Buf (Elt Ideal) ((c.tc : Thread Cert.SsdIdeal.nD Cert.SsdIdeal.τ).loc Cert.SsdIdeal.main_v16_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v16_1) = v0 c
          ∧ r.2.mem ((c.tc : Thread Cert.SsdIdeal.nD Cert.SsdIdeal.τ).loc Cert.SsdIdeal.main_v16_2) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v73) = v0 c
          ∧ r.2.mem ((c.tc : Thread Cert.SsdReferenceIdeal.nD Cert.SsdReferenceIdeal.τ).loc Cert.SsdReferenceIdeal.main_v36) = v1 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7)
          ∧ r.2.mem ((c.tc : Thread Cert.SsdReferenceIdeal.nD Cert.SsdReferenceIdeal.τ).loc Cert.SsdReferenceIdeal.main_arg8) = m' ((c.tc : Thread Cert.SsdReferenceIdeal.nD Cert.SsdReferenceIdeal.τ).loc Cert.SsdReferenceIdeal.main_arg8)
          ∧ r.2.mem ((c.tc : Thread Cert.SsdReferenceIdeal.nD Cert.SsdReferenceIdeal.τ).loc Cert.SsdReferenceIdeal.main_arg9) = m' ((c.tc : Thread Cert.SsdReferenceIdeal.nD Cert.SsdReferenceIdeal.τ).loc Cert.SsdReferenceIdeal.main_arg9)
          ∧ r.2.mem ((c.tc : Thread Cert.SsdReferenceIdeal.nD Cert.SsdReferenceIdeal.τ).loc Cert.SsdReferenceIdeal.main_arg10) = m' ((c.tc : Thread Cert.SsdReferenceIdeal.nD Cert.SsdReferenceIdeal.τ).loc Cert.SsdReferenceIdeal.main_arg10))

def Claim : Prop :=
  ∃ (hInproj : Cert.Inproj.Facts) (hInprojIdeal : Cert.InprojIdeal.Facts) (hInprojReferenceIdeal : Cert.InprojReferenceIdeal.Facts) (hExperts : Cert.Experts.Facts) (hExpertsIdeal : Cert.ExpertsIdeal.Facts) (hExpertsReferenceIdeal : Cert.ExpertsReferenceIdeal.Facts) (hOutproj : Cert.Outproj.Facts) (hOutprojIdeal : Cert.OutprojIdeal.Facts) (hOutprojReferenceIdeal : Cert.OutprojReferenceIdeal.Facts) (hGmlp : Cert.Gmlp.Facts) (hGmlpIdeal : Cert.GmlpIdeal.Facts) (hGmlpReferenceIdeal : Cert.GmlpReferenceIdeal.Facts) (hSsd : Cert.Ssd.Facts) (hSsdIdeal : Cert.SsdIdeal.Facts) (hSsdReferenceIdeal : Cert.SsdReferenceIdeal.Facts) (hPre_tables_in_range : Cert.Pre_tables_in_range.Facts),
    quiescent_Inproj (hInproj := hInproj)
    ∧ quiescent_InprojIdeal (hInprojIdeal := hInprojIdeal)
    ∧ quiescent_InprojReferenceIdeal (hInprojReferenceIdeal := hInprojReferenceIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsReferenceIdeal (hExpertsReferenceIdeal := hExpertsReferenceIdeal)
    ∧ quiescent_ExpertsReferenceIdeal_pre_tables_in_range (hExpertsReferenceIdeal := hExpertsReferenceIdeal) (hPre_tables_in_range := hPre_tables_in_range)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ preserves_Inproj_InprojIdeal
    ∧ algebraic_InprojIdeal_InprojReferenceIdeal (hInprojIdeal := hInprojIdeal) (hInprojReferenceIdeal := hInprojReferenceIdeal)
    ∧ preserves_Experts_ExpertsIdeal
    ∧ algebraic_ExpertsIdeal_ExpertsReferenceIdeal (hExpertsIdeal := hExpertsIdeal) (hExpertsReferenceIdeal := hExpertsReferenceIdeal) (hPre_tables_in_range := hPre_tables_in_range)
    ∧ preserves_Outproj_OutprojIdeal
    ∧ algebraic_OutprojIdeal_OutprojReferenceIdeal (hOutprojIdeal := hOutprojIdeal) (hOutprojReferenceIdeal := hOutprojReferenceIdeal)
    ∧ preserves_Gmlp_GmlpIdeal
    ∧ algebraic_GmlpIdeal_GmlpReferenceIdeal (hGmlpIdeal := hGmlpIdeal) (hGmlpReferenceIdeal := hGmlpReferenceIdeal)
    ∧ preserves_Ssd_SsdIdeal
    ∧ algebraic_SsdIdeal_SsdReferenceIdeal (hSsdIdeal := hSsdIdeal) (hSsdReferenceIdeal := hSsdReferenceIdeal)
-- ==== Pre_tables_in_range.lean ====
abbrev S528 : Shape := ⟨1, ![528]⟩
abbrev S1 : Shape := ⟨1, ![1]⟩
abbrev S135168x1024 : Shape := ⟨2, ![135168, 1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S528 : S_.BroadcastsInDim S528 (![] : Fin 0 → Fin S528.rank)
  bcast_S_S1 : S_.BroadcastsInDim S1 (![] : Fin 0 → Fin S1.rank)
  bcast_S1_S528_0 : S1.BroadcastsInDim S528 (![0] : Fin 1 → Fin S528.rank)

variable [Facts]

def fn {F : FTy → Type} [FloatOps F] (main_arg0 : IVec S528 32) (main_arg1 : IVec S1 32) (main_arg2 : FVec F S135168x1024 .f32) (main_arg3 : FVec F S16x1024x512 .f32) (main_arg4 : FVec F S16x1024x512 .f32) (main_arg5 : FVec F S16x512x1024 .f32) : IVec S528 1 :=
  let main_c : IVec S_ 32 := constantI S_ 32 0#32
  let main_v0 : IVec S528 32 := broadcastInDim S528 ![] bcast_S_S528 main_c
  let main_v1 : IVec S528 1 := cmpi .sge main_arg0 main_v0
  let main_c_0 : IVec S_ 32 := constantI S_ 32 16#32
  let main_v2 : IVec S528 32 := broadcastInDim S528 ![] bcast_S_S528 main_c_0
  let main_v3 : IVec S528 1 := cmpi .slt main_arg0 main_v2
  let main_v4 : IVec S528 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S528 1 := broadcastInDim S528 ![0] bcast_S1_S528_0 main_v6
  let main_v8 : IVec S528 1 := andi main_v4 main_v7
  main_v8
-- ==== Inproj.lean ====
abbrev S65536x1024 : Shape := ⟨2, ![65536, 1024]⟩
abbrev S16x1024 : Shape := ⟨2, ![16, 1024]⟩
abbrev S1024 : Shape := ⟨1, ![1024]⟩
abbrev S1024x3090 : Shape := ⟨2, ![1024, 3090]⟩
abbrev S1024x640 : Shape := ⟨2, ![1024, 640]⟩
abbrev S1024x384 : Shape := ⟨2, ![1024, 384]⟩
abbrev S1024x6 : Shape := ⟨2, ![1024, 6]⟩
abbrev S1024x256 : Shape := ⟨2, ![1024, 256]⟩
abbrev S1024x1152 : Shape := ⟨2, ![1024, 1152]⟩
abbrev S_ : Shape := ⟨0, ![]⟩
abbrev S1024x128 : Shape := ⟨2, ![1024, 128]⟩
abbrev S1 : Shape := ⟨1, ![1]⟩
abbrev S1024x3200 : Shape := ⟨2, ![1024, 3200]⟩
abbrev S16x1x1024 : Shape := ⟨3, ![16, 1, 1024]⟩
abbrev S1x1024 : Shape := ⟨2, ![1, 1024]⟩
abbrev S65536x640 : Shape := ⟨2, ![65536, 640]⟩
abbrev S65536x384 : Shape := ⟨2, ![65536, 384]⟩
abbrev S65536x256 : Shape := ⟨2, ![65536, 256]⟩
abbrev S65536x1152 : Shape := ⟨2, ![65536, 1152]⟩
abbrev S65536x128 : Shape := ⟨2, ![65536, 128]⟩
abbrev S256x1024 : Shape := ⟨2, ![256, 1024]⟩
abbrev S1x1x1024 : Shape := ⟨3, ![1, 1, 1024]⟩
abbrev S256x640 : Shape := ⟨2, ![256, 640]⟩
abbrev S256x384 : Shape := ⟨2, ![256, 384]⟩
abbrev S256x256 : Shape := ⟨2, ![256, 256]⟩
abbrev S256x1152 : Shape := ⟨2, ![256, 1152]⟩
abbrev S256x128 : Shape := ⟨2, ![256, 128]⟩
abbrev S256 : Shape := ⟨1, ![256]⟩
abbrev S256x1 : Shape := ⟨2, ![256, 1]⟩

abbrev nBuf : Space → Nat
  | .hbm => 37
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x3090, .f32⟩
  | .hbm, ⟨5, _⟩ => ⟨S1024x640, .f32⟩
  | .hbm, ⟨6, _⟩ => ⟨S1024x384, .f32⟩
  | .hbm, ⟨7, _⟩ => ⟨S1024x6, .f32⟩
  | .hbm, ⟨8, _⟩ => ⟨S1024x256, .f32⟩
  | .hbm, ⟨9, _⟩ => ⟨S1024x256, .f32⟩
  | .hbm, ⟨10, _⟩ => ⟨S1024x1152, .f32⟩
  | .hbm, ⟨11, _⟩ => ⟨S1024x6, .f32⟩
  | .hbm, ⟨12, _⟩ => ⟨S1024x6, .f32⟩
  | .hbm, ⟨13, _⟩ => ⟨S1024x384, .f32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x3200, .f32⟩
  | .hbm, ⟨26, _⟩ => ⟨S1024x3200, .bf16⟩
  | .hbm, ⟨27, _⟩ => ⟨S16x1x1024, .f32⟩
  | .hbm, ⟨28, _⟩ => ⟨S16x1x1024, .f32⟩
  | .hbm, ⟨29, _⟩ => ⟨S1x1024, .f32⟩
  | .hbm, ⟨30, _⟩ => ⟨S65536x640, .f32⟩
  | .hbm, ⟨31, _⟩ => ⟨S65536x384, .f32⟩
  | .hbm, ⟨32, _⟩ => ⟨S65536x256, .f32⟩
  | .hbm, ⟨33, _⟩ => ⟨S65536x256, .f32⟩
  | .hbm, ⟨34, _⟩ => ⟨S65536x1152, .f32⟩
  | .hbm, ⟨35, _⟩ => ⟨S65536x384, .f32⟩
  | .hbm, ⟨36, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3200, .bf16⟩
  | .local _ .vmem, ⟨8, _⟩ => ⟨S256x640, .f32⟩
  | .local _ .vmem, ⟨9, _⟩ => ⟨S256x640, .f32⟩
  | .local _ .vmem, ⟨10, _⟩ => ⟨S256x384, .f32⟩
  | .local _ .vmem, ⟨11, _⟩ => ⟨S256x384, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x1152, .f32⟩
  | .local _ .vmem, ⟨17, _⟩ => ⟨S256x1152, .f32⟩
  | .local _ .vmem, ⟨18, _⟩ => ⟨S256x384, .f32⟩
  | .local _ .vmem, ⟨19, _⟩ => ⟨S256x384, .f32⟩
  | .local _ .vmem, ⟨20, _⟩ => ⟨S256x128, .f32⟩
  | .local _ .vmem, ⟨21, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojReferenceIdeal.lean ====
abbrev S65536x1024 : Shape := ⟨2, ![65536, 1024]⟩
abbrev S16x1024 : Shape := ⟨2, ![16, 1024]⟩
abbrev S1024 : Shape := ⟨1, ![1024]⟩
abbrev S1024x3090 : Shape := ⟨2, ![1024, 3090]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S65536x3090 : Shape := ⟨2, ![65536, 3090]⟩
abbrev S65536x640 : Shape := ⟨2, ![65536, 640]⟩
abbrev S65536x384 : Shape := ⟨2, ![65536, 384]⟩
abbrev S65536x6 : Shape := ⟨2, ![65536, 6]⟩
abbrev S65536x256 : Shape := ⟨2, ![65536, 256]⟩
abbrev S65536x1152 : Shape := ⟨2, ![65536, 1152]⟩
abbrev S65536x2 : Shape := ⟨2, ![65536, 2]⟩
abbrev S65536x106 : Shape := ⟨2, ![65536, 106]⟩
abbrev S65536x128 : Shape := ⟨2, ![65536, 128]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x3090, .f32⟩
  | .hbm, ⟨5, _⟩ => ⟨S16x4096x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x4096x1024, .f32⟩
  | .hbm, ⟨27, _⟩ => ⟨S16x4096x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S65536x1024, .f32⟩
  | .hbm, ⟨32, _⟩ => ⟨S65536x3090, .f32⟩
  | .hbm, ⟨33, _⟩ => ⟨S65536x640, .f32⟩
  | .hbm, ⟨34, _⟩ => ⟨S65536x384, .f32⟩
  | .hbm, ⟨35, _⟩ => ⟨S65536x6, .f32⟩
  | .hbm, ⟨36, _⟩ => ⟨S65536x256, .f32⟩
  | .hbm, ⟨37, _⟩ => ⟨S65536x256, .f32⟩
  | .hbm, ⟨38, _⟩ => ⟨S65536x1152, .f32⟩
  | .hbm, ⟨39, _⟩ => ⟨S65536x6, .f32⟩
  | .hbm, ⟨40, _⟩ => ⟨S65536x6, .f32⟩
  | .hbm, ⟨41, _⟩ => ⟨S65536x384, .f32⟩
  | .hbm, ⟨42, _⟩ => ⟨S_, .f32⟩
  | .hbm, ⟨43, _⟩ => ⟨S65536x2, .f32⟩
  | .hbm, ⟨44, _⟩ => ⟨S_, .f32⟩
  | .hbm, ⟨45, _⟩ => ⟨S65536x106, .f32⟩
  | .hbm, ⟨46, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Experts.lean ====
abbrev S528 : Shape := ⟨1, ![528]⟩
abbrev S1 : Shape := ⟨1, ![1]⟩
abbrev S135168x1024 : Shape := ⟨2, ![135168, 1024]⟩
abbrev S16x1024x512 : Shape := ⟨3, ![16, 1024, 512]⟩
abbrev S16x512x1024 : Shape := ⟨3, ![16, 512, 1024]⟩
abbrev S_ : Shape := ⟨0, ![]⟩
abbrev S528x1 : Shape := ⟨2, ![528, 1]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 23
  | .vmem => 10
  | .smem => 2
  | _ => 0

abbrev bufTy : (tb : Table) → Fin (tcTables nBuf tb) → BufTy
  | .hbm, ⟨0, _⟩ => ⟨S528, .i32⟩
  | .hbm, ⟨1, _⟩ => ⟨S135168x1024, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S528, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S528, .i32⟩
  | .hbm, ⟨10, _⟩ => ⟨S528, .i32⟩
  | .hbm, ⟨11, _⟩ => ⟨S_, .i32⟩
  | .hbm, ⟨12, _⟩ => ⟨S528, .i32⟩
  | .hbm, ⟨13, _⟩ => ⟨S528, .i1⟩
  | .hbm, ⟨14, _⟩ => ⟨S_, .i32⟩
  | .hbm, ⟨15, _⟩ => ⟨S528, .i32⟩
  | .hbm, ⟨16, _⟩ => ⟨S528, .i32⟩
  | .hbm, ⟨17, _⟩ => ⟨S528, .i32⟩
  | .hbm, ⟨18, _⟩ => ⟨S528x1, .i32⟩
  | .hbm, ⟨19, _⟩ => ⟨S16x1024x512, .bf16⟩
  | .hbm, ⟨20, _⟩ => ⟨S16x1024x512, .bf16⟩
  | .hbm, ⟨21, _⟩ => ⟨S16x512x1024, .bf16⟩
  | .hbm, ⟨22, _⟩ => ⟨S135168x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S528, .i32⟩
  | .local _ .smem, ⟨1, _⟩ => ⟨S1, .i32⟩
  | _, _ => ⟨S528, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![528], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S528 : Shape := ⟨1, ![528]⟩
abbrev S1 : Shape := ⟨1, ![1]⟩
abbrev S135168x1024 : Shape := ⟨2, ![135168, 1024]⟩
abbrev S16x1024x512 : Shape := ⟨3, ![16, 1024, 512]⟩
abbrev S16x512x1024 : Shape := ⟨3, ![16, 512, 1024]⟩
abbrev S528x256x1024 : Shape := ⟨3, ![528, 256, 1024]⟩
abbrev S_ : Shape := ⟨0, ![]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S528x1x1 : Shape := ⟨3, ![528, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S528, .i32⟩
  | .hbm, ⟨1, _⟩ => ⟨S1, .i32⟩
  | .hbm, ⟨2, _⟩ => ⟨S135168x1024, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S528x256x1024, .f32⟩
  | .hbm, ⟨7, _⟩ => ⟨S_, .f32⟩
  | .hbm, ⟨8, _⟩ => ⟨S528x256x1024, .f32⟩
  | .hbm, ⟨9, _⟩ => ⟨S_, .i32⟩
  | .hbm, ⟨10, _⟩ => ⟨S528x256x1024, .f32⟩
  | .hbm, ⟨11, _⟩ => ⟨S528, .i32⟩
  | .hbm, ⟨12, _⟩ => ⟨S16x1024x512, .f32⟩
  | .hbm, ⟨13, _⟩ => ⟨S16x1024x512, .f32⟩
  | .hbm, ⟨14, _⟩ => ⟨S16x512x1024, .f32⟩
  | .hbm, ⟨15, _⟩ => ⟨S_, .i32⟩
  | .hbm, ⟨16, _⟩ => ⟨S528x256x1024, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x256x1024, .f32⟩
  | .hbm, ⟨22, _⟩ => ⟨S256x1024, .f32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x1024x512, .f32⟩
  | .hbm, ⟨47, _⟩ => ⟨S1024x512, .f32⟩
  | .hbm, ⟨48, _⟩ => ⟨S256x512, .f32⟩
  | .hbm, ⟨49, _⟩ => ⟨S256x512, .f32⟩
  | .hbm, ⟨50, _⟩ => ⟨S256x512, .f32⟩
  | .hbm, ⟨51, _⟩ => ⟨S_, .f32⟩
  | .hbm, ⟨52, _⟩ => ⟨S256x512, .f32⟩
  | .hbm, ⟨53, _⟩ => ⟨S256x512, .f32⟩
  | .hbm, ⟨54, _⟩ => ⟨S_, .f32⟩
  | .hbm, ⟨55, _⟩ => ⟨S256x512, .f32⟩
  | .hbm, ⟨56, _⟩ => ⟨S256x512, .f32⟩
  | .hbm, ⟨57, _⟩ => ⟨S256x512, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x1024x512, .f32⟩
  | .hbm, ⟨80, _⟩ => ⟨S1024x512, .f32⟩
  | .hbm, ⟨81, _⟩ => ⟨S256x512, .f32⟩
  | .hbm, ⟨82, _⟩ => ⟨S256x512, .f32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S1x512x1024, .f32⟩
  | .hbm, ⟨105, _⟩ => ⟨S512x1024, .f32⟩
  | .hbm, ⟨106, _⟩ => ⟨S256x1024, .f32⟩
  | .hbm, ⟨107, _⟩ => ⟨S1x256x1024, .f32⟩
  | .hbm, ⟨108, _⟩ => ⟨S_, .i32⟩
  | .hbm, ⟨109, _⟩ => ⟨S_, .i32⟩
  | .hbm, ⟨110, _⟩ => ⟨S528x256x1024, .f32⟩
  | .hbm, ⟨111, _⟩ => ⟨S_, .i32⟩
  | .hbm, ⟨112, _⟩ => ⟨S_, .i32⟩
  | .hbm, ⟨113, _⟩ => ⟨S528, .i32⟩
  | .hbm, ⟨114, _⟩ => ⟨S_, .i32⟩
  | .hbm, ⟨115, _⟩ => ⟨S528, .i32⟩
  | .hbm, ⟨116, _⟩ => ⟨S528, .i1⟩
  | .hbm, ⟨117, _⟩ => ⟨S528x1x1, .i1⟩
  | .hbm, ⟨118, _⟩ => ⟨S_, .f32⟩
  | .hbm, ⟨119, _⟩ => ⟨S_, .f32⟩
  | .hbm, ⟨120, _⟩ => ⟨S528x256x1024, .i1⟩
  | .hbm, ⟨121, _⟩ => ⟨S528x256x1024, .f32⟩
  | .hbm, ⟨122, _⟩ => ⟨S528x256x1024, .f32⟩
  | .hbm, ⟨123, _⟩ => ⟨S135168x1024, .f32⟩
  | _, _ => ⟨S528, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_while0c_c_7 : Ref sig .tc := ⟨.hbm, 17, rfl⟩
abbrev main_while0c_v10 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v10 : Ref sig .tc := ⟨.hbm, 22, rfl⟩
abbrev main_while0b_call1_v0 : Ref sig .tc := ⟨.hbm, 23, rfl⟩
abbrev main_while0b_v11 : Ref sig .tc := ⟨.hbm, 24, rfl⟩
abbrev main_while0b_c_7 : Ref sig .tc := ⟨.hbm, 25, rfl⟩
abbrev main_while0b_v12 : Ref sig .tc := ⟨.hbm, 26, rfl⟩
abbrev main_while0b_c_8 : Ref sig .tc := ⟨.hbm, 27, rfl⟩
abbrev main_while0b_v13 : Ref sig .tc := ⟨.hbm, 28, rfl⟩
abbrev main_while0b_v14 : Ref sig .tc := ⟨.hbm, 29, rfl⟩
abbrev main_while0b_c_9 : Ref sig .tc := ⟨.hbm, 30, rfl⟩
abbrev main_while0b_c_10 : Ref sig .tc := ⟨.hbm, 31, rfl⟩
abbrev main_while0b_v15 : Ref sig .tc := ⟨.hbm, 32, rfl⟩
abbrev main_while0b_c_11 : Ref sig .tc := ⟨.hbm, 33, rfl⟩
abbrev main_while0b_c_12 : Ref sig .tc := ⟨.hbm, 34, rfl⟩
abbrev main_while0b_v16 : Ref sig .tc := ⟨.hbm, 35, rfl⟩
abbrev main_while0b_c_13 : Ref sig .tc := ⟨.hbm, 36, rfl⟩
abbrev main_while0b_v17 : Ref sig .tc := ⟨.hbm, 37, rfl⟩
abbrev main_while0b_c_14 : Ref sig .tc := ⟨.hbm, 38, rfl⟩
abbrev main_while0b_c_15 : Ref sig .tc := ⟨.hbm, 39, rfl⟩
abbrev main_while0b_v18 : Ref sig .tc := ⟨.hbm, 40, rfl⟩
abbrev main_while0b_c_16 : Ref sig .tc := ⟨.hbm, 41, rfl⟩
abbrev main_while0b_c_17 : Ref sig .tc := ⟨.hbm, 42, rfl⟩
abbrev main_while0b_v19 : Ref sig .tc := ⟨.hbm, 43, rfl⟩
abbrev main_while0b_c_18 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_call2_v0 : Ref sig .tc := ⟨.hbm, 49, rfl⟩
abbrev main_while0b_call2_v1 : Ref sig .tc := ⟨.hbm, 50, rfl⟩
abbrev main_while0b_call2_cst : Ref sig .tc := ⟨.hbm, 51, rfl⟩
abbrev main_while0b_call2_v2 : Ref sig .tc := ⟨.hbm, 52, rfl⟩
abbrev main_while0b_call2_v3 : Ref sig .tc := ⟨.hbm, 53, rfl⟩
abbrev main_while0b_call2_cst_0 : Ref sig .tc := ⟨.hbm, 54, rfl⟩
abbrev main_while0b_call2_v4 : Ref sig .tc := ⟨.hbm, 55, rfl⟩
abbrev main_while0b_call2_v5 : Ref sig .tc := ⟨.hbm, 56, rfl⟩
abbrev main_while0b_v24 : Ref sig .tc := ⟨.hbm, 57, rfl⟩
abbrev main_while0b_c_19 : Ref sig .tc := ⟨.hbm, 58, rfl⟩
abbrev main_while0b_v25 : Ref sig .tc := ⟨.hbm, 59, rfl⟩
abbrev main_while0b_c_20 : Ref sig .tc := ⟨.hbm, 60, rfl⟩
abbrev main_while0b_v26 : Ref sig .tc := ⟨.hbm, 61, rfl⟩
abbrev main_while0b_v27 : Ref sig .tc := ⟨.hbm, 62, rfl⟩
abbrev main_while0b_c_21 : Ref sig .tc := ⟨.hbm, 63, rfl⟩
abbrev main_while0b_c_22 : Ref sig .tc := ⟨.hbm, 64, rfl⟩
abbrev main_while0b_v28 : Ref sig .tc := ⟨.hbm, 65, rfl⟩
abbrev main_while0b_c_23 : Ref sig .tc := ⟨.hbm, 66, rfl⟩
abbrev main_while0b_c_24 : Ref sig .tc := ⟨.hbm, 67, rfl⟩
abbrev main_while0b_v29 : Ref sig .tc := ⟨.hbm, 68, rfl⟩
abbrev main_while0b_c_25 : Ref sig .tc := ⟨.hbm, 69, rfl⟩
abbrev main_while0b_v30 : Ref sig .tc := ⟨.hbm, 70, rfl⟩
abbrev main_while0b_c_26 : Ref sig .tc := ⟨.hbm, 71, rfl⟩
abbrev main_while0b_c_27 : Ref sig .tc := ⟨.hbm, 72, rfl⟩
abbrev main_while0b_v31 : Ref sig .tc := ⟨.hbm, 73, rfl⟩
abbrev main_while0b_c_28 : Ref sig .tc := ⟨.hbm, 74, rfl⟩
abbrev main_while0b_c_29 : Ref sig .tc := ⟨.hbm, 75, rfl⟩
abbrev main_while0b_v32 : Ref sig .tc := ⟨.hbm, 76, rfl⟩
abbrev main_while0b_c_30 : Ref sig .tc := ⟨.hbm, 77, rfl⟩
abbrev main_while0b_v33 : Ref sig .tc := ⟨.hbm, 78, rfl⟩
abbrev main_while0b_v34 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_c_31 : Ref sig .tc := ⟨.hbm, 83, rfl⟩
abbrev main_while0b_v38 : Ref sig .tc := ⟨.hbm, 84, rfl⟩
abbrev main_while0b_c_32 : Ref sig .tc := ⟨.hbm, 85, rfl⟩
abbrev main_while0b_v39 : Ref sig .tc := ⟨.hbm, 86, rfl⟩
abbrev main_while0b_v40 : Ref sig .tc := ⟨.hbm, 87, rfl⟩
abbrev main_while0b_c_33 : Ref sig .tc := ⟨.hbm, 88, rfl⟩
abbrev main_while0b_c_34 : Ref sig .tc := ⟨.hbm, 89, rfl⟩
abbrev main_while0b_v41 : Ref sig .tc := ⟨.hbm, 90, rfl⟩
abbrev main_while0b_c_35 : Ref sig .tc := ⟨.hbm, 91, rfl⟩
abbrev main_while0b_c_36 : Ref sig .tc := ⟨.hbm, 92, rfl⟩
abbrev main_while0b_v42 : Ref sig .tc := ⟨.hbm, 93, rfl⟩
abbrev main_while0b_c_37 : Ref sig .tc := ⟨.hbm, 94, rfl⟩
abbrev main_while0b_v43 : Ref sig .tc := ⟨.hbm, 95, rfl⟩
abbrev main_while0b_c_38 : Ref sig .tc := ⟨.hbm, 96, rfl⟩
abbrev main_while0b_c_39 : Ref sig .tc := ⟨.hbm, 97, rfl⟩
abbrev main_while0b_v44 : Ref sig .tc := ⟨.hbm, 98, rfl⟩
abbrev main_while0b_c_40 : Ref sig .tc := ⟨.hbm, 99, rfl⟩
abbrev main_while0b_c_41 : Ref sig .tc := ⟨.hbm, 100, rfl⟩
abbrev main_while0b_v45 : Ref sig .tc := ⟨.hbm, 101, rfl⟩
abbrev main_while0b_c_42 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_call3_v0 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_v50 : Ref sig .tc := ⟨.hbm, 110, rfl⟩
abbrev main_while0b_c_43 : Ref sig .tc := ⟨.hbm, 111, rfl⟩
abbrev main_while0b_v51 : Ref sig .tc := ⟨.hbm, 112, rfl⟩
abbrev main_v3 : Ref sig .tc := ⟨.hbm, 113, rfl⟩
abbrev main_v4 : Ref sig .tc := ⟨.hbm, 114, rfl⟩
abbrev main_v5 : Ref sig .tc := ⟨.hbm, 115, rfl⟩
abbrev main_v6 : Ref sig .tc := ⟨.hbm, 116, rfl⟩
abbrev main_v7 : Ref sig .tc := ⟨.hbm, 117, rfl⟩
abbrev main_cst_0 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v8 : Ref sig .tc := ⟨.hbm, 122, rfl⟩
abbrev main_v9 : Ref sig .tc := ⟨.hbm, 123, rfl⟩

abbrev nD : Nat := 1
abbrev τ : Topo := Topo.v7x

variable {F : FTy → Type} [FloatOps F]

abbrev main_while0_count : Scf.Loop 32 := ⟨0#32, 528#32, 1#32⟩
-- ==== Outproj.lean ====
abbrev S65536x1024 : Shape := ⟨2, ![65536, 1024]⟩
abbrev S65536x384 : Shape := ⟨2, ![65536, 384]⟩
abbrev S65536x256 : Shape := ⟨2, ![65536, 256]⟩
abbrev S16x1024 : Shape := ⟨2, ![16, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S384x1024 : Shape := ⟨2, ![384, 1024]⟩
abbrev S256x1024 : Shape := ⟨2, ![256, 1024]⟩
abbrev S16x1x1024 : Shape := ⟨3, ![16, 1, 1024]⟩
abbrev S1x1024 : Shape := ⟨2, ![1, 1024]⟩
abbrev S16x1 : Shape := ⟨2, ![16, 1]⟩
abbrev S2x65536 : Shape := ⟨2, ![2, 65536]⟩
abbrev S65536x128 : Shape := ⟨2, ![65536, 128]⟩
abbrev S256x384 : Shape := ⟨2, ![256, 384]⟩
abbrev S256x256 : Shape := ⟨2, ![256, 256]⟩
abbrev S1x1x1024 : Shape := ⟨3, ![1, 1, 1024]⟩
abbrev S2x256 : Shape := ⟨2, ![2, 256]⟩
abbrev S256x128 : Shape := ⟨2, ![256, 128]⟩
abbrev S256 : Shape := ⟨1, ![256]⟩
abbrev S256x1 : Shape := ⟨2, ![256, 1]⟩
abbrev S16x256 : Shape := ⟨2, ![16, 256]⟩
abbrev S1x256 : Shape := ⟨2, ![1, 256]⟩
abbrev S128x256 : Shape := ⟨2, ![128, 256]⟩

abbrev nBuf : Space → Nat
  | .hbm => 26
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x256, .f32⟩
  | .hbm, ⟨3, _⟩ => ⟨S65536x384, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024, .f32⟩
  | .hbm, ⟨8, _⟩ => ⟨S1024x1024, .f32⟩
  | .hbm, ⟨9, _⟩ => ⟨S1024x16, .f32⟩
  | .hbm, ⟨10, _⟩ => ⟨S16, .f32⟩
  | .hbm, ⟨11, _⟩ => ⟨S1024x1024, .bf16⟩
  | .hbm, ⟨12, _⟩ => ⟨S384x1024, .bf16⟩
  | .hbm, ⟨13, _⟩ => ⟨S256x1024, .bf16⟩
  | .hbm, ⟨14, _⟩ => ⟨S384x1024, .bf16⟩
  | .hbm, ⟨15, _⟩ => ⟨S16x1x1024, .f32⟩
  | .hbm, ⟨16, _⟩ => ⟨S1x1024, .f32⟩
  | .hbm, ⟨17, _⟩ => ⟨S16x1x1024, .f32⟩
  | .hbm, ⟨18, _⟩ => ⟨S16x1x1024, .f32⟩
  | .hbm, ⟨19, _⟩ => ⟨S16x1024, .f32⟩
  | .hbm, ⟨20, _⟩ => ⟨S16x1024, .bf16⟩
  | .hbm, ⟨21, _⟩ => ⟨S16x1, .f32⟩
  | .hbm, ⟨22, _⟩ => ⟨S65536x1024, .f32⟩
  | .hbm, ⟨23, _⟩ => ⟨S65536x1024, .f32⟩
  | .hbm, ⟨24, _⟩ => ⟨S2x65536, .i32⟩
  | .hbm, ⟨25, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S256x384, .f32⟩
  | .local _ .vmem, ⟨3, _⟩ => ⟨S256x384, .f32⟩
  | .local _ .vmem, ⟨4, _⟩ => ⟨S256x256, .f32⟩
  | .local _ .vmem, ⟨5, _⟩ => ⟨S256x256, .f32⟩
  | .local _ .vmem, ⟨6, _⟩ => ⟨S256x384, .f32⟩
  | .local _ .vmem, ⟨7, _⟩ => ⟨S256x384, .f32⟩
  | .local _ .vmem, ⟨8, _⟩ => ⟨S384x1024, .bf16⟩
  | .local _ .vmem, ⟨9, _⟩ => ⟨S256x1024, .bf16⟩
  | .local _ .vmem, ⟨10, _⟩ => ⟨S384x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S16x1024, .bf16⟩
  | .local _ .vmem, ⟨19, _⟩ => ⟨S16x1, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S2x256, .i32⟩
  | .local _ .vmem, ⟨25, _⟩ => ⟨S2x256, .i32⟩
  | .local _ .vmem, ⟨26, _⟩ => ⟨S256x128, .f32⟩
  | .local _ .vmem, ⟨27, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutprojReferenceIdeal.lean ====
abbrev S65536x1024 : Shape := ⟨2, ![65536, 1024]⟩
abbrev S65536x384 : Shape := ⟨2, ![65536, 384]⟩
abbrev S65536x256 : Shape := ⟨2, ![65536, 256]⟩
abbrev S16x1024 : Shape := ⟨2, ![16, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S16x4096x1024 : Shape := ⟨3, ![16, 4096, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x256, .f32⟩
  | .hbm, ⟨3, _⟩ => ⟨S65536x384, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024, .f32⟩
  | .hbm, ⟨8, _⟩ => ⟨S1024x1024, .f32⟩
  | .hbm, ⟨9, _⟩ => ⟨S1024x16, .f32⟩
  | .hbm, ⟨10, _⟩ => ⟨S16, .f32⟩
  | .hbm, ⟨11, _⟩ => ⟨S16x4096x1024, .f32⟩
  | .hbm, ⟨12, _⟩ => ⟨S65536x1024, .f32⟩
  | .hbm, ⟨13, _⟩ => ⟨S65536x1024, .f32⟩
  | .hbm, ⟨14, _⟩ => ⟨S16x4096x1024, .f32⟩
  | .hbm, ⟨15, _⟩ => ⟨S16x1x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S16x1x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x4096x1024, .f32⟩
  | .hbm, ⟨40, _⟩ => ⟨S16x4096x1024, .f32⟩
  | .hbm, ⟨41, _⟩ => ⟨S16x1x1024, .f32⟩
  | .hbm, ⟨42, _⟩ => ⟨S16x4096x1024, .f32⟩
  | .hbm, ⟨43, _⟩ => ⟨S16x4096x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Gmlp.lean ====
abbrev S1024x256 : Shape := ⟨2, ![1024, 256]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S4x64x64 : Shape := ⟨3, ![4, 64, 64]⟩
abbrev S4x64 : Shape := ⟨2, ![4, 64]⟩
abbrev S64x4 : Shape := ⟨2, ![64, 4]⟩
abbrev S64x256 : Shape := ⟨2, ![64, 256]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x64x64 : Shape := ⟨3, ![1, 64, 64]⟩

abbrev nBuf : Space → Nat
  | .hbm => 13
  | .vmem => 12
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1x256, .f32⟩
  | .hbm, ⟨7, _⟩ => ⟨S1x256, .f32⟩
  | .hbm, ⟨8, _⟩ => ⟨S4x64x64, .f32⟩
  | .hbm, ⟨9, _⟩ => ⟨S4x64, .f32⟩
  | .hbm, ⟨10, _⟩ => ⟨S64x4, .f32⟩
  | .hbm, ⟨11, _⟩ => ⟨S1024x256, .f32⟩
  | .hbm, ⟨12, _⟩ => ⟨S1024x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S1x256, .f32⟩
  | .local _ .vmem, ⟨5, _⟩ => ⟨S1x256, .f32⟩
  | .local _ .vmem, ⟨6, _⟩ => ⟨S4x64x64, .f32⟩
  | .local _ .vmem, ⟨7, _⟩ => ⟨S64x4, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpReferenceIdeal.lean ====
abbrev S1024x256 : Shape := ⟨2, ![1024, 256]⟩
abbrev S256 : Shape := ⟨1, ![256]⟩
abbrev S4x128x128 : Shape := ⟨3, ![4, 128, 128]⟩
abbrev S4x128 : Shape := ⟨2, ![4, 128]⟩
abbrev S16x64x256 : Shape := ⟨3, ![16, 64, 256]⟩
abbrev S_ : Shape := ⟨0, ![]⟩
abbrev S16x64x4x64 : Shape := ⟨4, ![16, 64, 4, 64]⟩
abbrev S16x64x4 : Shape := ⟨3, ![16, 64, 4]⟩
abbrev S16x64x4x1 : Shape := ⟨4, ![16, 64, 4, 1]⟩
abbrev S4x64 : Shape := ⟨2, ![4, 64]⟩
abbrev S1x1x4x64 : Shape := ⟨4, ![1, 1, 4, 64]⟩
abbrev S64x64 : Shape := ⟨2, ![64, 64]⟩
abbrev S4x64x64 : Shape := ⟨3, ![4, 64, 64]⟩
abbrev S16x1x64x4x64 : Shape := ⟨5, ![16, 1, 64, 4, 64]⟩
abbrev S4x16x1x64x64 : Shape := ⟨5, ![4, 16, 1, 64, 64]⟩
abbrev S64x4 : Shape := ⟨2, ![64, 4]⟩
abbrev S1x1x64x4x1 : Shape := ⟨5, ![1, 1, 64, 4, 1]⟩

abbrev nBuf : Space → Nat
  | .hbm => 103
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S16x64x256, .f32⟩
  | .hbm, ⟨7, _⟩ => ⟨S16x64x256, .f32⟩
  | .hbm, ⟨8, _⟩ => ⟨S16x64x256, .f32⟩
  | .hbm, ⟨9, _⟩ => ⟨S_, .f32⟩
  | .hbm, ⟨10, _⟩ => ⟨S16x64x256, .f32⟩
  | .hbm, ⟨11, _⟩ => ⟨S16x64x256, .f32⟩
  | .hbm, ⟨12, _⟩ => ⟨S16x64x256, .f32⟩
  | .hbm, ⟨13, _⟩ => ⟨S_, .f32⟩
  | .hbm, ⟨14, _⟩ => ⟨S16x64x256, .f32⟩
  | .hbm, ⟨15, _⟩ => ⟨S16x64x256, .f32⟩
  | .hbm, ⟨16, _⟩ => ⟨S16x64x256, .f32⟩
  | .hbm, ⟨17, _⟩ => ⟨S_, .f32⟩
  | .hbm, ⟨18, _⟩ => ⟨S16x64x256, .f32⟩
  | .hbm, ⟨19, _⟩ => ⟨S16x64x256, .f32⟩
  | .hbm, ⟨20, _⟩ => ⟨S_, .f32⟩
  | .hbm, ⟨21, _⟩ => ⟨S16x64x256, .f32⟩
  | .hbm, ⟨22, _⟩ => ⟨S16x64x256, .f32⟩
  | .hbm, ⟨23, _⟩ => ⟨S16x64x256, .f32⟩
  | .hbm, ⟨24, _⟩ => ⟨S16x64x256, .f32⟩
  | .hbm, ⟨25, _⟩ => ⟨S16x64x256, .f32⟩
  | .hbm, ⟨26, _⟩ => ⟨S16x64x256, .f32⟩
  | .hbm, ⟨27, _⟩ => ⟨S_, .f32⟩
  | .hbm, ⟨28, _⟩ => ⟨S16x64x256, .f32⟩
  | .hbm, ⟨29, _⟩ => ⟨S16x64x256, .f32⟩
  | .hbm, ⟨30, _⟩ => ⟨S16x64x256, .f32⟩
  | .hbm, ⟨31, _⟩ => ⟨S_, .f32⟩
  | .hbm, ⟨32, _⟩ => ⟨S16x64x256, .f32⟩
  | .hbm, ⟨33, _⟩ => ⟨S16x64x256, .f32⟩
  | .hbm, ⟨34, _⟩ => ⟨S16x64x256, .f32⟩
  | .hbm, ⟨35, _⟩ => ⟨S_, .f32⟩
  | .hbm, ⟨36, _⟩ => ⟨S16x64x256, .f32⟩
  | .hbm, ⟨37, _⟩ => ⟨S16x64x256, .f32⟩
  | .hbm, ⟨38, _⟩ => ⟨S_, .f32⟩
  | .hbm, ⟨39, _⟩ => ⟨S16x64x256, .f32⟩
  | .hbm, ⟨40, _⟩ => ⟨S16x64x256, .f32⟩
  | .hbm, ⟨41, _⟩ => ⟨S16x64x256, .f32⟩
  | .hbm, ⟨42, _⟩ => ⟨S16x64x4x64, .f32⟩
  | .hbm, ⟨43, _⟩ => ⟨S_, .f32⟩
  | .hbm, ⟨44, _⟩ => ⟨S16x64x4, .f32⟩
  | .hbm, ⟨45, _⟩ => ⟨S16x64x4x1, .f32⟩
  | .hbm, ⟨46, _⟩ => ⟨S_, .f32⟩
  | .hbm, ⟨47, _⟩ => ⟨S16x64x4x1, .f32⟩
  | .hbm, ⟨48, _⟩ => ⟨S16x64x4x1, .f32⟩
  | .hbm, ⟨49, _⟩ => ⟨S16x64x4x64, .f32⟩
  | .hbm, ⟨50, _⟩ => ⟨S16x64x4x64, .f32⟩
  | .hbm, ⟨51, _⟩ => ⟨S16x64x4x64, .f32⟩
  | .hbm, ⟨52, _⟩ => ⟨S_, .f32⟩
  | .hbm, ⟨53, _⟩ => ⟨S16x64x4, .f32⟩
  | .hbm, ⟨54, _⟩ => ⟨S16x64x4x1, .f32⟩
  | .hbm, ⟨55, _⟩ => ⟨S_, .f32⟩
  | .hbm, ⟨56, _⟩ => ⟨S16x64x4x1, .f32⟩
  | .hbm, ⟨57, _⟩ => ⟨S16x64x4x1, .f32⟩
  | .hbm, ⟨58, _⟩ => ⟨S16x64x4x64, .f32⟩
  | .hbm, ⟨59, _⟩ => ⟨S16x64x4x64, .f32⟩
  | .hbm, ⟨60, _⟩ => ⟨S_, .f32⟩
  | .hbm, ⟨61, _⟩ => ⟨S16x64x4x1, .f32⟩
  | .hbm, ⟨62, _⟩ => ⟨S16x64x4x1, .f32⟩
  | .hbm, ⟨63, _⟩ => ⟨S16x64x4x1, .f32⟩
  | .hbm, ⟨64, _⟩ => ⟨S16x64x4x64, .f32⟩
  | .hbm, ⟨65, _⟩ => ⟨S16x64x4x64, .f32⟩
  | .hbm, ⟨66, _⟩ => ⟨S4x64, .f32⟩
  | .hbm, ⟨67, _⟩ => ⟨S1x1x4x64, .f32⟩
  | .hbm, ⟨68, _⟩ => ⟨S16x64x4x64, .f32⟩
  | .hbm, ⟨69, _⟩ => ⟨S16x64x4x64, .f32⟩
  | .hbm, ⟨70, _⟩ => ⟨S4x64, .f32⟩
  | .hbm, ⟨71, _⟩ => ⟨S1x1x4x64, .f32⟩
  | .hbm, ⟨72, _⟩ => ⟨S16x64x4x64, .f32⟩
  | .hbm, ⟨73, _⟩ => ⟨S16x64x4x64, .f32⟩
  | .hbm, ⟨74, _⟩ => ⟨S_, .i1⟩
  | .hbm, ⟨75, _⟩ => ⟨S64x64, .i1⟩
  | .hbm, ⟨76, _⟩ => ⟨S64x64, .i32⟩
  | .hbm, ⟨77, _⟩ => ⟨S_, .i32⟩
  | .hbm, ⟨78, _⟩ => ⟨S64x64, .i32⟩
  | .hbm, ⟨79, _⟩ => ⟨S64x64, .i32⟩
  | .hbm, ⟨80, _⟩ => ⟨S64x64, .i32⟩
  | .hbm, ⟨81, _⟩ => ⟨S64x64, .i1⟩
  | .hbm, ⟨82, _⟩ => ⟨S_, .i1⟩
  | .hbm, ⟨83, _⟩ => ⟨S64x64, .i1⟩
  | .hbm, ⟨84, _⟩ => ⟨S64x64, .i1⟩
  | .hbm, ⟨85, _⟩ => ⟨S4x64x64, .f32⟩
  | .hbm, ⟨86, _⟩ => ⟨S_, .f32⟩
  | .hbm, ⟨87, _⟩ => ⟨S_, .f32⟩
  | .hbm, ⟨88, _⟩ => ⟨S4x64x64, .i1⟩
  | .hbm, ⟨89, _⟩ => ⟨S4x64x64, .f32⟩
  | .hbm, ⟨90, _⟩ => ⟨S4x64x64, .f32⟩
  | .hbm, ⟨91, _⟩ => ⟨S16x1x64x4x64, .f32⟩
  | .hbm, ⟨92, _⟩ => ⟨S4x16x1x64x64, .f32⟩
  | .hbm, ⟨93, _⟩ => ⟨S16x1x64x4x64, .f32⟩
  | .hbm, ⟨94, _⟩ => ⟨S4x64, .f32⟩
  | .hbm, ⟨95, _⟩ => ⟨S64x4, .f32⟩
  | .hbm, ⟨96, _⟩ => ⟨S1x1x64x4x1, .f32⟩
  | .hbm, ⟨97, _⟩ => ⟨S16x1x64x4x64, .f32⟩
  | .hbm, ⟨98, _⟩ => ⟨S16x1x64x4x64, .f32⟩
  | .hbm, ⟨99, _⟩ => ⟨S16x64x256, .f32⟩
  | .hbm, ⟨100, _⟩ => ⟨S16x64x256, .f32⟩
  | .hbm, ⟨101, _⟩ => ⟨S1024x256, .f32⟩
  | .hbm, ⟨102, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Ssd.lean ====
abbrev S1024x640 : Shape := ⟨2, ![1024, 640]⟩
abbrev S1024x384 : Shape := ⟨2, ![1024, 384]⟩
abbrev S1024x128 : Shape := ⟨2, ![1024, 128]⟩
abbrev S16x6x64x64 : Shape := ⟨4, ![16, 6, 64, 64]⟩
abbrev S16x3x640 : Shape := ⟨3, ![16, 3, 640]⟩
abbrev S4x640 : Shape := ⟨2, ![4, 640]⟩
abbrev S640 : Shape := ⟨1, ![640]⟩
abbrev S6 : Shape := ⟨1, ![6]⟩
abbrev S384 : Shape := ⟨1, ![384]⟩
abbrev S1x640 : Shape := ⟨2, ![1, 640]⟩
abbrev S_ : Shape := ⟨0, ![]⟩
abbrev S1x128 : Shape := ⟨2, ![1, 128]⟩
abbrev S1 : Shape := ⟨1, ![1]⟩
abbrev S2 : Shape := ⟨1, ![2]⟩
abbrev S6x64 : Shape := ⟨2, ![6, 64]⟩
abbrev S1x384 : Shape := ⟨2, ![1, 384]⟩
abbrev S64x640 : Shape := ⟨2, ![64, 640]⟩
abbrev S64x384 : Shape := ⟨2, ![64, 384]⟩
abbrev S64x128 : Shape := ⟨2, ![64, 128]⟩
abbrev S1x6x64x64 : Shape := ⟨4, ![1, 6, 64, 64]⟩
abbrev S1x3x640 : Shape := ⟨3, ![1, 3, 640]⟩
abbrev S72x640 : Shape := ⟨2, ![72, 640]⟩
abbrev S6x64x64 : Shape := ⟨3, ![6, 64, 64]⟩
abbrev S3x640 : Shape := ⟨2, ![3, 640]⟩
abbrev S128x128 : Shape := ⟨2, ![128, 128]⟩
abbrev S128x64 : Shape := ⟨2, ![128, 64]⟩
abbrev S64x64 : Shape := ⟨2, ![64, 64]⟩
abbrev S64x1 : Shape := ⟨2, ![64, 1]⟩
abbrev S1x64 : Shape := ⟨2, ![1, 64]⟩
abbrev S1x64x64 : Shape := ⟨3, ![1, 64, 64]⟩
abbrev S1x1 : Shape := ⟨2, ![1, 1]⟩
abbrev S64 : Shape := ⟨1, ![64]⟩

abbrev nBuf : Space → Nat
  | .hbm => 36
  | .vmem => 25
  | .smem => 0
  | _ => 0

abbrev bufTy : (tb : Table) → Fin (tcTables nBuf tb) → BufTy
  | .hbm, ⟨0, _⟩ => ⟨S1024x640, .f32⟩
  | .hbm, ⟨1, _⟩ => ⟨S1024x384, .f32⟩
  | .hbm, ⟨2, _⟩ => ⟨S1024x128, .f32⟩
  | .hbm, ⟨3, _⟩ => ⟨S16x6x64x64, .f32⟩
  | .hbm, ⟨4, _⟩ => ⟨S16x3x640, .f32⟩
  | .hbm, ⟨5, _⟩ => ⟨S4x640, .f32⟩
  | .hbm, ⟨6, _⟩ => ⟨S640, .f32⟩
  | .hbm, ⟨7, _⟩ => ⟨S6, .f32⟩
  | .hbm, ⟨8, _⟩ => ⟨S6, .f32⟩
  | .hbm, ⟨9, _⟩ => ⟨S6, .f32⟩
  | .hbm, ⟨10, _⟩ => ⟨S384, .f32⟩
  | .hbm, ⟨11, _⟩ => ⟨S16x6x64x64, .f32⟩
  | .hbm, ⟨12, _⟩ => ⟨S1x640, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S6x64, .f32⟩
  | .hbm, ⟨30, _⟩ => ⟨S384, .f32⟩
  | .hbm, ⟨31, _⟩ => ⟨S1x384, .f32⟩
  | .hbm, ⟨32, _⟩ => ⟨S1x384, .f32⟩
  | .hbm, ⟨33, _⟩ => ⟨S1024x384, .f32⟩
  | .hbm, ⟨34, _⟩ => ⟨S16x6x64x64, .f32⟩
  | .hbm, ⟨35, _⟩ => ⟨S16x3x640, .f32⟩
  | .local _ .vmem, ⟨0, _⟩ => ⟨S64x640, .f32⟩
  | .local _ .vmem, ⟨1, _⟩ => ⟨S64x640, .f32⟩
  | .local _ .vmem, ⟨2, _⟩ => ⟨S64x384, .f32⟩
  | .local _ .vmem, ⟨3, _⟩ => ⟨S64x384, .f32⟩
  | .local _ .vmem, ⟨4, _⟩ => ⟨S64x128, .f32⟩
  | .local _ .vmem, ⟨5, _⟩ => ⟨S64x128, .f32⟩
  | .local _ .vmem, ⟨6, _⟩ => ⟨S1x6x64x64, .f32⟩
  | .local _ .vmem, ⟨7, _⟩ => ⟨S1x6x64x64, .f32⟩
  | .local _ .vmem, ⟨8, _⟩ => ⟨S1x3x640, .f32⟩
  | .local _ .vmem, ⟨9, _⟩ => ⟨S1x3x640, .f32⟩
  | .local _ .vmem, ⟨10, _⟩ => ⟨S4x640, .f32⟩
  | .local _ .vmem, ⟨11, _⟩ => ⟨S1x640, .f32⟩
  | .local _ .vmem, ⟨12, _⟩ => ⟨S1x128, .f32⟩
  | .local _ .vmem, ⟨13, _⟩ => ⟨S1x128, .f32⟩
  | .local _ .vmem, ⟨14, _⟩ => ⟨S1x384, .f32⟩
  | .local _ .vmem, ⟨15, _⟩ => ⟨S1x384, .f32⟩
  | .local _ .vmem, ⟨16, _⟩ => ⟨S64x384, .f32⟩
  | .local _ .vmem, ⟨17, _⟩ => ⟨S64x384, .f32⟩
  | .local _ .vmem, ⟨18, _⟩ => ⟨S1x6x64x64, .f32⟩
  | .local _ .vmem, ⟨19, _⟩ => ⟨S1x6x64x64, .f32⟩
  | .local _ .vmem, ⟨20, _⟩ => ⟨S1x3x640, .f32⟩
  | .local _ .vmem, ⟨21, _⟩ => ⟨S1x3x640, .f32⟩
  | .local _ .vmem, ⟨22, _⟩ => ⟨S72x640, .f32⟩
  | .local _ .vmem, ⟨23, _⟩ => ⟨S6x64x64, .f32⟩
  | .local _ .vmem, ⟨24, _⟩ => ⟨S64x384, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x6x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== SsdReferenceIdeal.lean ====
abbrev S1024x640 : Shape := ⟨2, ![1024, 640]⟩
abbrev S1024x384 : Shape := ⟨2, ![1024, 384]⟩
abbrev S1024x128 : Shape := ⟨2, ![1024, 128]⟩
abbrev S16x6x64x64 : Shape := ⟨4, ![16, 6, 64, 64]⟩
abbrev S16x3x640 : Shape := ⟨3, ![16, 3, 640]⟩
abbrev S4x640 : Shape := ⟨2, ![4, 640]⟩
abbrev S640 : Shape := ⟨1, ![640]⟩
abbrev S6 : Shape := ⟨1, ![6]⟩
abbrev S384 : Shape := ⟨1, ![384]⟩
abbrev S16x64x640 : Shape := ⟨3, ![16, 64, 640]⟩
abbrev S1024x6 : Shape := ⟨2, ![1024, 6]⟩
abbrev S16x64x6 : Shape := ⟨3, ![16, 64, 6]⟩
abbrev S16x67x640 : Shape := ⟨3, ![16, 67, 640]⟩
abbrev S1x640 : Shape := ⟨2, ![1, 640]⟩
abbrev S1x1x640 : Shape := ⟨3, ![1, 1, 640]⟩
abbrev S_ : Shape := ⟨0, ![]⟩
abbrev S16x64x384 : Shape := ⟨3, ![16, 64, 384]⟩
abbrev S16x64x128 : Shape := ⟨3, ![16, 64, 128]⟩
abbrev S1x1x6 : Shape := ⟨3, ![1, 1, 6]⟩
abbrev S16x64x6x64 : Shape := ⟨4, ![16, 64, 6, 64]⟩
abbrev S16x64x2x64 : Shape := ⟨4, ![16, 64, 2, 64]⟩
abbrev S16x64x2x3x64 : Shape := ⟨5, ![16, 64, 2, 3, 64]⟩
abbrev S16x64x6x1 : Shape := ⟨4, ![16, 64, 6, 1]⟩
abbrev S16x1x6 : Shape := ⟨3, ![16, 1, 6]⟩
abbrev S16x6 : Shape := ⟨2, ![16, 6]⟩
abbrev S16x6x1x1 : Shape := ⟨4, ![16, 6, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x384, .f32⟩
  | .hbm, ⟨2, _⟩ => ⟨S1024x128, .f32⟩
  | .hbm, ⟨3, _⟩ => ⟨S16x6x64x64, .f32⟩
  | .hbm, ⟨4, _⟩ => ⟨S16x3x640, .f32⟩
  | .hbm, ⟨5, _⟩ => ⟨S4x640, .f32⟩
  | .hbm, ⟨6, _⟩ => ⟨S640, .f32⟩
  | .hbm, ⟨7, _⟩ => ⟨S6, .f32⟩
  | .hbm, ⟨8, _⟩ => ⟨S6, .f32⟩
  | .hbm, ⟨9, _⟩ => ⟨S6, .f32⟩
  | .hbm, ⟨10, _⟩ => ⟨S384, .f32⟩
  | .hbm, ⟨11, _⟩ => ⟨S16x64x640, .f32⟩
  | .hbm, ⟨12, _⟩ => ⟨S1024x6, .f32⟩
  | .hbm, ⟨13, _⟩ => ⟨S16x64x6, .f32⟩
  | .hbm, ⟨14, _⟩ => ⟨S16x67x640, .f32⟩
  | .hbm, ⟨15, _⟩ => ⟨S1x640, .f32⟩
  | .hbm, ⟨16, _⟩ => ⟨S640, .f32⟩
  | .hbm, ⟨17, _⟩ => ⟨S16x64x640, .f32⟩
  | .hbm, ⟨18, _⟩ => ⟨S1x1x640, .f32⟩
  | .hbm, ⟨19, _⟩ => ⟨S16x64x640, .f32⟩
  | .hbm, ⟨20, _⟩ => ⟨S16x64x640, .f32⟩
  | .hbm, ⟨21, _⟩ => ⟨S_, .f32⟩
  | .hbm, ⟨22, _⟩ => ⟨S16x64x640, .f32⟩
  | .hbm, ⟨23, _⟩ => ⟨S16x64x640, .f32⟩
  | .hbm, ⟨24, _⟩ => ⟨S1x640, .f32⟩
  | .hbm, ⟨25, _⟩ => ⟨S640, .f32⟩
  | .hbm, ⟨26, _⟩ => ⟨S16x64x640, .f32⟩
  | .hbm, ⟨27, _⟩ => ⟨S1x1x640, .f32⟩
  | .hbm, ⟨28, _⟩ => ⟨S16x64x640, .f32⟩
  | .hbm, ⟨29, _⟩ => ⟨S16x64x640, .f32⟩
  | .hbm, ⟨30, _⟩ => ⟨S16x64x640, .f32⟩
  | .hbm, ⟨31, _⟩ => ⟨S1x640, .f32⟩
  | .hbm, ⟨32, _⟩ => ⟨S640, .f32⟩
  | .hbm, ⟨33, _⟩ => ⟨S16x64x640, .f32⟩
  | .hbm, ⟨34, _⟩ => ⟨S1x1x640, .f32⟩
  | .hbm, ⟨35, _⟩ => ⟨S16x64x640, .f32⟩
  | .hbm, ⟨36, _⟩ => ⟨S16x64x640, .f32⟩
  | .hbm, ⟨37, _⟩ => ⟨S16x64x640, .f32⟩
  | .hbm, ⟨38, _⟩ => ⟨S1x640, .f32⟩
  | .hbm, ⟨39, _⟩ => ⟨S640, .f32⟩
  | .hbm, ⟨40, _⟩ => ⟨S16x64x640, .f32⟩
  | .hbm, ⟨41, _⟩ => ⟨S1x1x640, .f32⟩
  | .hbm, ⟨42, _⟩ => ⟨S16x64x640, .f32⟩
  | .hbm, ⟨43, _⟩ => ⟨S16x64x640, .f32⟩
  | .hbm, ⟨44, _⟩ => ⟨S16x64x640, .f32⟩
  | .hbm, ⟨45, _⟩ => ⟨S1x1x640, .f32⟩
  | .hbm, ⟨46, _⟩ => ⟨S16x64x640, .f32⟩
  | .hbm, ⟨47, _⟩ => ⟨S16x64x640, .f32⟩
  | .hbm, ⟨48, _⟩ => ⟨S16x3x640, .f32⟩
  | .hbm, ⟨49, _⟩ => ⟨S16x64x640, .f32⟩
  | .hbm, ⟨50, _⟩ => ⟨S16x64x640, .f32⟩
  | .hbm, ⟨51, _⟩ => ⟨S_, .f32⟩
  | .hbm, ⟨52, _⟩ => ⟨S16x64x640, .f32⟩
  | .hbm, ⟨53, _⟩ => ⟨S16x64x640, .f32⟩
  | .hbm, ⟨54, _⟩ => ⟨S_, .f32⟩
  | .hbm, ⟨55, _⟩ => ⟨S16x64x640, .f32⟩
  | .hbm, ⟨56, _⟩ => ⟨S16x64x640, .f32⟩
  | .hbm, ⟨57, _⟩ => ⟨S16x64x640, .f32⟩
  | .hbm, ⟨58, _⟩ => ⟨S16x64x384, .f32⟩
  | .hbm, ⟨59, _⟩ => ⟨S16x64x128, .f32⟩
  | .hbm, ⟨60, _⟩ => ⟨S16x64x128, .f32⟩
  | .hbm, ⟨61, _⟩ => ⟨S1x1x6, .f32⟩
  | .hbm, ⟨62, _⟩ => ⟨S16x64x6, .f32⟩
  | .hbm, ⟨63, _⟩ => ⟨S16x64x6, .f32⟩
  | .hbm, ⟨64, _⟩ => ⟨S_, .f32⟩
  | .hbm, ⟨65, _⟩ => ⟨S16x64x6, .f32⟩
  | .hbm, ⟨66, _⟩ => ⟨S16x64x6, .f32⟩
  | .hbm, ⟨67, _⟩ => ⟨S16x64x6, .f32⟩
  | .hbm, ⟨68, _⟩ => ⟨S16x64x6, .f32⟩
  | .hbm, ⟨69, _⟩ => ⟨S16x64x6, .i1⟩
  | .hbm, ⟨70, _⟩ => ⟨S16x64x6, .f32⟩
  | .hbm, ⟨71, _⟩ => ⟨S16x64x6, .f32⟩
  | .hbm, ⟨72, _⟩ => ⟨S16x64x6, .f32⟩
  | .hbm, ⟨73, _⟩ => ⟨S16x64x6, .f32⟩
  | .hbm, ⟨74, _⟩ => ⟨S16x64x6, .f32⟩
  | .hbm, ⟨75, _⟩ => ⟨S16x64x6, .f32⟩
  | .hbm, ⟨76, _⟩ => ⟨S16x64x6, .f32⟩
  | .hbm, ⟨77, _⟩ => ⟨S16x64x6, .f32⟩
  | .hbm, ⟨78, _⟩ => ⟨S16x64x6x64, .f32⟩
  | .hbm, ⟨79, _⟩ => ⟨S16x64x2x64, .f32⟩
  | .hbm, ⟨80, _⟩ => ⟨S16x64x2x3x64, .f32⟩
  | .hbm, ⟨81, _⟩ => ⟨S16x64x6x64, .f32⟩
  | .hbm, ⟨82, _⟩ => ⟨S6, .f32⟩
  | .hbm, ⟨83, _⟩ => ⟨S6, .f32⟩
  | .hbm, ⟨84, _⟩ => ⟨S1x1x6, .f32⟩
  | .hbm, ⟨85, _⟩ => ⟨S16x64x6, .f32⟩
  | .hbm, ⟨86, _⟩ => ⟨S16x64x6, .f32⟩
  | .hbm, ⟨87, _⟩ => ⟨S16x64x6x1, .f32⟩
  | .hbm, ⟨88, _⟩ => ⟨S16x64x6x64, .f32⟩
  | .hbm, ⟨89, _⟩ => ⟨S16x64x6x64, .f32⟩
  | .hbm, ⟨90, _⟩ => ⟨S_, .f32⟩
  | .hbm, ⟨91, _⟩ => ⟨S_, .f32⟩
  | .hbm, ⟨92, _⟩ => ⟨S16x64x6, .f32⟩
  | .hbm, ⟨93, _⟩ => ⟨S16x1x6, .f32⟩
  | .hbm, ⟨94, _⟩ => ⟨S16x64x6, .f32⟩
  | .hbm, ⟨95, _⟩ => ⟨S16x64x6, .f32⟩
  | .hbm, ⟨96, _⟩ => ⟨S16x64x6, .f32⟩
  | .hbm, ⟨97, _⟩ => ⟨S16x64x6x1, .f32⟩
  | .hbm, ⟨98, _⟩ => ⟨S16x64x6x64, .f32⟩
  | .hbm, ⟨99, _⟩ => ⟨S16x64x6x64, .f32⟩
  | .hbm, ⟨100, _⟩ => ⟨S16x6x64x64, .f32⟩
  | .hbm, ⟨101, _⟩ => ⟨S16x1x6, .f32⟩
  | .hbm, ⟨102, _⟩ => ⟨S16x6, .f32⟩
  | .hbm, ⟨103, _⟩ => ⟨S16x6, .f32⟩
  | .hbm, ⟨104, _⟩ => ⟨S16x6x1x1, .f32⟩
  | .hbm, ⟨105, _⟩ => ⟨S16x6x64x64, .f32⟩
  | .hbm, ⟨106, _⟩ => ⟨S16x6x64x64, .f32⟩
  | .hbm, ⟨107, _⟩ => ⟨S16x6x64x64, .f32⟩
  | .hbm, ⟨108, _⟩ => ⟨S16x6x64x64, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call2_call0_cst : Ref sig .tc := ⟨.hbm, 90, rfl⟩
abbrev main_call2_call0_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Proof.InprojPure.lean ====
/- The input projection as mathematics: what one row of the modulated norm holds, and what the kernel's payloads and the
   reference's operations read at an index. -/
module

public import proofs.«01_k».proof.Proof.Gen.InprojIdeal.Skeleton
public import proofs.«01_k».proof.Proof.Gen.InprojReferenceIdeal.Read
public import Idealize.ShloMosaic.Lib.Pointwise

@[expose] public section

set_option maxRecDepth 16384

noncomputable section

open Idealize.ShloMosaic Idealize.ShloMosaic.TcCoe Idealize.SL.Sem

namespace Cert.InprojPure

/-- Entry `k` of row `r` of the modulated RMS norm: the row over the root of its mean square, times the weight, scaled and
    shifted by the row's sequence's conditioning. Sequences have 4096 rows each. -/
def hid (X : FVec Ideal ⟨2, ![65536, 1024]⟩ .f32) (SH SC : FVec Ideal ⟨2, ![16, 1024]⟩ .f32) (NW : FVec Ideal ⟨1, ![1024]⟩ .f32)
    (r : Fin 65536) (k : Fin 1024) : EReal :=
  X (ix2 r k) * Ideal.rsqrt (Ideal.div (∑ l : Fin 1024, X (ix2 r l) * X (ix2 r l)) (Ideal.ofBits .f32 0x44800000#32)
      + Ideal.ofBits .f32 0x358637BD#32) * NW (ix1 k)
    * (1 + SC (ix2 ⟨r.val / 4096, by have := r.isLt; omega⟩ k)) + SH (ix2 ⟨r.val / 4096, by have := r.isLt; omega⟩ k)

/-- The projection of row `r` on column `j` of the weights. -/
def proj (X : FVec Ideal ⟨2, ![65536, 1024]⟩ .f32) (SH SC : FVec Ideal ⟨2, ![16, 1024]⟩ .f32) (NW : FVec Ideal ⟨1, ![1024]⟩ .f32)
    (W : FVec Ideal ⟨2, ![1024, 3090]⟩ .f32) (r : Fin 65536) (j : Fin 3090) : EReal :=
  ∑ k : Fin 1024, hid X SH SC NW r k * W (ix2 k j)

section Reference
open Cert.InprojReferenceIdeal Cert.InprojReferenceIdeal.Gen Cert.InprojReferenceIdeal.Read

/-- The reference's normed rows. -/
theorem ref_hid (X : FVec Ideal S65536x1024 .f32) (SH SC : FVec Ideal S16x1024 .f32) (NW : FVec Ideal S1024 .f32) (r : Fin 65536) (k : Fin 1024) :
    val_main_v22 (F := Ideal) X SH SC NW (ix2 r k) = hid X SH SC NW r k := by
  pointwise [val_main_v22, val_main_v21, val_main_v20, val_main_v19, val_main_v18, val_main_v17, val_main_v16, val_main_v15, val_main_cst_2,
    val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rfl

/-- The reference's projection, all columns. -/
theorem ref_proj (X : FVec Ideal S65536x1024 .f32) (SH SC : FVec Ideal S16x1024 .f32) (NW : FVec Ideal S1024 .f32)
    (W : FVec Ideal S1024x3090 .f32) (r : Fin 65536) (j : Fin 3090) :
    val_main_v23 (F := Ideal) X SH SC NW W (ix2 r j) = proj X SH SC NW W r j := by
  pointwise [val_main_v23]
  unfold proj
  refine Finset.sum_congr rfl fun k _ => ?_
  rw [ref_hid]

end Reference

section Kernel
open Cert.InprojIdeal Cert.InprojIdeal.Gen

/-- The kernel's normed block, before the product. -/
theorem pay6_at (x : Vec Ideal S256x1024 .f32) (nw : Vec Ideal S1x1024 .f32) (sc sh : Vec Ideal S1x1x1024 .f32) (p : Fin 256) (k : Fin 1024) :
    k0_pay6 (F := Ideal) x nw sc sh (ix2 p k)
      = x (ix2 p k) * Ideal.rsqrt (Ideal.div (∑ l : Fin 1024, x (ix2 p l) * x (ix2 p l)) (Ideal.ofBits .f32 0x44800000#32)
          + Ideal.ofBits .f32 0x358637BD#32) * nw (ix2 0 k) * (1 + sc (ix3 0 0 k)) + sh (ix3 0 0 k) := by
  pointwise [k0_pay6]

/-- The product with the 640 columns of one output. -/
theorem pay7_at (x : Vec Ideal S256x1024 .f32) (nw : Vec Ideal S1x1024 .f32) (sc sh : Vec Ideal S1x1x1024 .f32) (w : Vec Ideal S1024x640 .bf16)
    (p : Fin 256) (q : Fin 640) :
    k0_pay7 (F := Ideal) x nw sc sh w (ix2 p q) = ∑ k : Fin 1024, k0_pay6 (F := Ideal) x nw sc sh (ix2 p k) * w (ix2 k q) := by
  pointwise [k0_pay7]

/-- The product with the 384 columns of one output. -/
theorem pay8_at (x : Vec Ideal S256x1024 .f32) (nw : Vec Ideal S1x1024 .f32) (sc sh : Vec Ideal S1x1x1024 .f32) (w : Vec Ideal S1024x384 .bf16)
    (p : Fin 256) (q : Fin 384) :
    k0_pay8 (F := Ideal) x nw sc sh w (ix2 p q) = ∑ k : Fin 1024, k0_pay6 (F := Ideal) x nw sc sh (ix2 p k) * w (ix2 k q) := by
  pointwise [k0_pay8]

theorem pay1_at (h : FVec Ideal S256x1024 .bf16) (w : Vec Ideal S1024x256 .bf16) (p : Fin 256) (q : Fin 256) :
    k0_pay1 (F := Ideal) h w (ix2 p q) = ∑ k : Fin 1024, h (ix2 p k) * w (ix2 k q) := by
  pointwise [k0_pay1]

theorem pay2_at (h : FVec Ideal S256x1024 .bf16) (w : Vec Ideal S1024x256 .bf16) (p : Fin 256) (q : Fin 256) :
    k0_pay2 (F := Ideal) h w (ix2 p q) = ∑ k : Fin 1024, h (ix2 p k) * w (ix2 k q) := by
  pointwise [k0_pay2]

theorem pay3_at (h : FVec Ideal S256x1024 .bf16) (w : Vec Ideal S1024x1152 .bf16) (p : Fin 256) (q : Fin 1152) :
    k0_pay3 (F := Ideal) h w (ix2 p q) = ∑ k : Fin 1024, h (ix2 p k) * w (ix2 k q) := by
  pointwise [k0_pay3]

theorem pay4_at (h : FVec Ideal S256x1024 .bf16) (w : Vec Ideal S1024x384 .bf16) (p : Fin 256) (q : Fin 384) :
    k0_pay4 (F := Ideal) h w (ix2 p q) = ∑ k : Fin 1024, h (ix2 p k) * w (ix2 k q) := by
  pointwise [k0_pay4]

theorem pay5_at (h : FVec Ideal S256x1024 .bf16) (w : Vec Ideal S1024x128 .bf16) (p : Fin 256) (q : Fin 128) :
    k0_pay5 (F := Ideal) h w (ix2 p q) = ∑ k : Fin 1024, h (ix2 p k) * w (ix2 k q) := by
  pointwise [k0_pay5]

end Kernel

end Cert.InprojPure
-- ==== Proof.SetColumns.lean ====
/- `x.at[:, k:k+K].set(u)` as it prints (a scatter at one literal index word whose update is a whole `[A, K]` window), read at an
   entry: the update inside the window, the operand outside it. -/
module

public import Idealize.ShloMosaic.Lib.Routing.OpsOne

@[expose] public section

namespace Cert.SetColumns

open Idealize.ShloMosaic Idealize.ShloMosaic.Routing Idealize.ShloMosaic.ValueIdx

/-- The entry of the window axes that belongs to kept axis `a`, when both lists are `[0, 1]`. -/
theorem pick (L K : List (Fin 2)) (hL : L = [0, 1]) (hK : K = [0, 1]) (a : Fin 2) (h : K.idxOf a < L.length) : L[K.idxOf a]'h = a := by
  subst hL hK
  match a with
  | 0 => rfl
  | 1 => rfl

/-- Update `(w', e')` lands at `(w, e)` exactly when the rows agree and `e` is `e'` places after the index word. -/
theorem lands {A N K : Nat} (d : ScatterDims (shape2 A N) (shape1 1) (shape2 A K)) (huw : d.updateWindowDims = [0, 1]) (hiw : d.insertedWindowDims = [])
    (hsd : d.scatterDimsToOperandDims = [1]) (idx : IVec (shape1 1) 32) (k : Nat) (hidx : (idx (ix1 0)).toInt = (k : Int))
    (w' w : Fin A) (e' : Fin K) (e : Fin N) : d.resultIdx? (ix2 w' e') idx = some (ix2 w e) ↔ w' = w ∧ k + e'.val = e.val := by
  have hm : (1 : Fin 2) ∈ d.scatterDimsToOperandDims := by rw [hsd]; exact List.mem_singleton.2 rfl
  have hkept : d.sKept = [0, 1] := by
    show (shape2 A N).kept d.insertedWindowDims = _
    rw [hiw]
    rfl
  have hwin0 : d.window (ix2 w' e') 0 = w'.val := by
    unfold ScatterDims.window
    rw [dif_pos (by rw [hkept]; simp)]
    exact congrArg (fun a : Fin 2 => (ix2 w' e' a).val) (pick _ _ huw hkept 0 _)
  have hwin1 : d.window (ix2 w' e') 1 = e'.val := by
    unfold ScatterDims.window
    rw [dif_pos (by rw [hkept]; simp)]
    exact congrArg (fun a : Fin 2 => (ix2 w' e' a).val) (pick _ _ huw hkept 1 _)
  have hstart0 : d.start (ix2 w' e') idx 0 = 0 := by
    unfold ScatterDims.start
    rw [dif_neg fun h => by rw [hsd] at h; exact absurd (List.mem_singleton.1 h) (by decide : (0 : Fin 2) ≠ 1)]
  have hstart1 : d.start (ix2 w' e') idx 1 = (k : Int) := by
    unfold ScatterDims.start
    rw [dif_pos hm]
    have hsi : d.siIdx (ix2 w' e') ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  rw [Fin.ext_iff, resultIdx?_ix2, hstart0, hwin0, hstart1, hwin1]
  omega

/-- The scatter read at `(w, e)`. -/
theorem setColumns {α : Type} {A N K : Nat} (d : ScatterDims (shape2 A N) (shape1 1) (shape2 A K)) (huw : d.updateWindowDims = [0, 1])
    (hiw : d.insertedWindowDims = []) (hsd : d.scatterDimsToOperandDims = [1]) (x0 : (shape2 A N).Idx → α) (idx : IVec (shape1 1) 32)
    (upd : (shape2 A K).Idx → α) (k : Nat) (hidx : (idx (ix1 0)).toInt = (k : Int)) (w : Fin A) (e : Fin N) :
    Host.scatter d (fun _ b => b) x0 idx upd (ix2 w e)
      = if h : k ≤ e.val ∧ e.val < k + K then upd (ix2 w ⟨e.val - k, by omega⟩) else x0 (ix2 w e) := by
  have hl : ∀ j : (shape2 A K).Idx, d.resultIdx? j idx = some (ix2 w e) → j 0 = w ∧ k + (j 1).val = e.val := fun j hj =>
    (lands d huw hiw hsd idx k hidx (j 0) w (j 1) e).1 ((congrArg (fun t => d.resultIdx? t idx) (eq_ix2 j).symm).trans hj)
  by_cases h : k ≤ e.val ∧ e.val < k + K
  · rw [dif_pos h]
    refine scatter_set_hit d x0 idx upd _ _ (fun j hj => ?_) (ix2 w ⟨e.val - k, by omega⟩)
      ((lands d huw hiw hsd idx k hidx w w _ e).2 ⟨rfl, by show k + (e.val - k) = e.val; omega⟩)
    obtain ⟨q0, q1⟩ := hl j hj
    rw [eq_ix2 j]
    exact congrArg₂ (fun a b => upd (ix2 a b)) q0 (Fin.ext (by show (j 1).val = e.val - k; omega))
  · rw [dif_neg h]
    refine scatter_set_miss d x0 idx upd _ fun j hj => h ?_
    obtain ⟨q0, q1⟩ := hl j hj
    have hlt : (j 1).val < K := (j 1).isLt
    omega

end Cert.SetColumns
-- ==== Proof.InprojPacked.lean ====
/- The input projection's packed weights: the columns of `w_in` in the kernel's order, the four six-column families moved into one
   128-column group at columns 3072, 3080 and 3088 (the rest of that group zero).  Each piece read at a column. -/
module

public import proofs.«01_k».proof.Proof.Gen.InprojIdeal.Skeleton
public import proofs.«01_k».proof.Proof.SetColumns
public import Idealize.ShloMosaic.Lib.Pointwise

@[expose] public section

set_option maxRecDepth 16384

noncomputable section

open Idealize.ShloMosaic Idealize.ShloMosaic.TcCoe Idealize.SL.Sem

namespace Cert.InprojPacked

open Cert.InprojIdeal Cert.InprojIdeal.Gen

/-- Six columns of `w_in` from column 1024 (`dt`), 2694 (`ga`) and 2700 (`gb`). -/
def dtW (W : FVec Ideal S1024x3090 .f32) : FVec Ideal S1024x6 .f32 := extractStridedSlice S1024x6 ![0, 1024] W slices_S1024x3090_S1024x6_0_1024
def gaW (W : FVec Ideal S1024x3090 .f32) : FVec Ideal S1024x6 .f32 := extractStridedSlice S1024x6 ![0, 2694] W slices_S1024x3090_S1024x6_0_2694
def gbW (W : FVec Ideal S1024x3090 .f32) : FVec Ideal S1024x6 .f32 := extractStridedSlice S1024x6 ![0, 2700] W slices_S1024x3090_S1024x6_0_2700

/-- Where the small group's next family begins, as the scatter's index word. -/
def at_ (n : BitVec 32) : IVec S1 32 := broadcastInDim S1 ![] bcast_S_S1 (constantI S_ 32 n)

/-- The small group: zero but for the three families. -/
def small (W : FVec Ideal S1024x3090 .f32) : FVec Ideal S1024x128 .f32 :=
  Host.scatter scatter_S1024x128_S1_S1024x6_01_n_1_0 (fun _ b => b)
    (Host.scatter scatter_S1024x128_S1_S1024x6_01_n_1_0 (fun _ b => b)
      (Host.scatter scatter_S1024x128_S1_S1024x6_01_n_1_0 (fun _ b => b)
        (broadcastInDim S1024x128 ![] bcast_S_S1024x128 (constant (F := Ideal) S_ .f32 0x00000000#32)) (at_ 0#32) (dtW W))
      (at_ 8#32) (gaW W))
    (at_ 16#32) (gbW W)

/-- The seven pieces side by side, in the kernel's format. -/
def side (a0 : FVec Ideal S1024x640 .f32) (a1 : FVec Ideal S1024x384 .f32) (a2 a3 : FVec Ideal S1024x256 .f32) (a4 : FVec Ideal S1024x1152 .f32)
    (a5 : FVec Ideal S1024x384 .f32) (a6 : FVec Ideal S1024x128 .f32) : FVec Ideal S1024x3200 .bf16 :=
  truncf .bf16 (concatenate S1024x3200 1
    [⟨S1024x640, a0⟩, ⟨S1024x384, a1⟩, ⟨S1024x256, a2⟩, ⟨S1024x256, a3⟩, ⟨S1024x1152, a4⟩, ⟨S1024x384, a5⟩, ⟨S1024x128, a6⟩]
    concatenates_S1024x640_S1024x384_S1024x256_S1024x256_S1024x1152_S1024x384_S1024x128_S1024x3200_d1) bitsLt_bf16_f32

/-- The whole packed array. -/
def packed (W : FVec Ideal S1024x3090 .f32) : FVec Ideal S1024x3200 .bf16 :=
  side (extractStridedSlice S1024x640 ![0, 0] W slices_S1024x3090_S1024x640_0_0)
    (extractStridedSlice S1024x384 ![0, 640] W slices_S1024x3090_S1024x384_0_640)
    (extractStridedSlice S1024x256 ![0, 1030] W slices_S1024x3090_S1024x256_0_1030)
    (extractStridedSlice S1024x256 ![0, 1286] W slices_S1024x3090_S1024x256_0_1286)
    (extractStridedSlice S1024x1152 ![0, 1542] W slices_S1024x3090_S1024x1152_0_1542)
    (extractStridedSlice S1024x384 ![0, 2706] W slices_S1024x3090_S1024x384_0_2706) (small W)

theorem dtW_at (W : FVec Ideal S1024x3090 .f32) (k : Fin 1024) (q : Fin 6) : dtW W (ix2 k q) = W (ix2 k ⟨1024 + q.val, by omega⟩) := by
  pointwise [dtW]

theorem gaW_at (W : FVec Ideal S1024x3090 .f32) (k : Fin 1024) (q : Fin 6) : gaW W (ix2 k q) = W (ix2 k ⟨2694 + q.val, by omega⟩) := by
  pointwise [gaW]

theorem gbW_at (W : FVec Ideal S1024x3090 .f32) (k : Fin 1024) (q : Fin 6) : gbW W (ix2 k q) = W (ix2 k ⟨2700 + q.val, by omega⟩) := by
  pointwise [gbW]

/-- A column of the packed array: the six wide pieces are `w_in`'s columns moved, the last is the small group. -/
theorem packed_xbc (W : FVec Ideal S1024x3090 .f32) (k : Fin 1024) (q : Fin 640) :
    packed W (ix2 k ⟨q.val, by omega⟩) = W (ix2 k ⟨q.val, by omega⟩) := by
  pointwise [packed, side] <;> split_ifs <;> first | (exfalso; omega) | exact congrArg (fun j => W (ix2 k j)) (Fin.ext (by dsimp only; omega))

theorem packed_z (W : FVec Ideal S1024x3090 .f32) (k : Fin 1024) (q : Fin 384) :
    packed W (ix2 k ⟨640 + q.val, by omega⟩) = W (ix2 k ⟨640 + q.val, by omega⟩) := by
  pointwise [packed, side] <;> split_ifs <;> first | (exfalso; omega) | exact congrArg (fun j => W (ix2 k j)) (Fin.ext (by dsimp only; omega))

theorem packed_u (W : FVec Ideal S1024x3090 .f32) (k : Fin 1024) (q : Fin 256) :
    packed W (ix2 k ⟨1024 + q.val, by omega⟩) = W (ix2 k ⟨1030 + q.val, by omega⟩) := by
  pointwise [packed, side] <;> split_ifs <;> first | (exfalso; omega) | exact congrArg (fun j => W (ix2 k j)) (Fin.ext (by dsimp only; omega))

theorem packed_v (W : FVec Ideal S1024x3090 .f32) (k : Fin 1024) (q : Fin 256) :
    packed W (ix2 k ⟨1280 + q.val, by omega⟩) = W (ix2 k ⟨1286 + q.val, by omega⟩) := by
  pointwise [packed, side] <;> split_ifs <;> first | (exfalso; omega) | exact congrArg (fun j => W (ix2 k j)) (Fin.ext (by dsimp only; omega))

theorem packed_qkv (W : FVec Ideal S1024x3090 .f32) (k : Fin 1024) (q : Fin 1152) :
    packed W (ix2 k ⟨1536 + q.val, by omega⟩) = W (ix2 k ⟨1542 + q.val, by omega⟩) := by
  pointwise [packed, side] <;> split_ifs <;> first | (exfalso; omega) | exact congrArg (fun j => W (ix2 k j)) (Fin.ext (by dsimp only; omega))

theorem packed_gg (W : FVec Ideal S1024x3090 .f32) (k : Fin 1024) (q : Fin 384) :
    packed W (ix2 k ⟨2688 + q.val, by omega⟩) = W (ix2 k ⟨2706 + q.val, by omega⟩) := by
  pointwise [packed, side] <;> split_ifs <;> first | (exfalso; omega) | exact congrArg (fun j => W (ix2 k j)) (Fin.ext (by dsimp only; omega))

theorem packed_small (W : FVec Ideal S1024x3090 .f32) (k : Fin 1024) (q : Fin 128) :
    packed W (ix2 k ⟨3072 + q.val, by omega⟩) = small W (ix2 k q) := by
  pointwise [packed, side] <;> split_ifs <;> first | (exfalso; omega) | exact congrArg (fun j => small W (ix2 k j)) (Fin.ext (by dsimp only; omega))

/-- The zero the small group starts from. -/
theorem zero_at (i : S1024x128.Idx) : (broadcastInDim S1024x128 ![] bcast_S_S1024x128 (constant (F := Ideal) S_ .f32 0x00000000#32)) i = (0 : EReal) := by
  pointwise

/-- One family written into the small group. -/
theorem set6 (x0 : FVec Ideal S1024x128 .f32) (n : BitVec 32) (upd : FVec Ideal S1024x6 .f32) (k : Nat) (hk : n.toInt = (k : Int)) (w : Fin 1024) (e : Fin 128) :
    Host.scatter scatter_S1024x128_S1_S1024x6_01_n_1_0 (fun _ b => b) x0 (at_ n) upd (ix2 w e)
      = if h : k ≤ e.val ∧ e.val < k + 6 then upd (ix2 w ⟨e.val - k, by omega⟩) else x0 (ix2 w e) :=
  Cert.SetColumns.setColumns scatter_S1024x128_S1_S1024x6_01_n_1_0 rfl rfl rfl x0 (at_ n) upd k hk w e

/-- The small group at a column: the family whose six columns hold it, else zero. -/
theorem small_at (W : FVec Ideal S1024x3090 .f32) (k : Fin 1024) (e : Fin 128) :
    small W (ix2 k e) = (if h : 16 ≤ e.val ∧ e.val < 22 then W (ix2 k ⟨2684 + e.val, by omega⟩)
      else if h : 8 ≤ e.val ∧ e.val < 14 then W (ix2 k ⟨2686 + e.val, by omega⟩)
      else if h : e.val < 6 then W (ix2 k ⟨1024 + e.val, by omega⟩) else (0 : EReal) : EReal) := by
  unfold small
  rw [set6 _ 16#32 _ 16 rfl]
  rw [set6 _ 8#32 _ 8 rfl]
  rw [set6 _ 0#32 _ 0 rfl]
  by_cases h1 : 16 ≤ e.val ∧ e.val < 22
  · rw [dif_pos (by omega), dif_pos h1, gbW_at]
    exact congrArg (fun j => W (ix2 k j)) (Fin.ext (by show 2700 + (e.val - 16) = 2684 + e.val; omega))
  rw [dif_neg (by omega), dif_neg h1]
  by_cases h2 : 8 ≤ e.val ∧ e.val < 14
  · rw [dif_pos (by omega), dif_pos h2, gaW_at]
    exact congrArg (fun j => W (ix2 k j)) (Fin.ext (by show 2694 + (e.val - 8) = 2686 + e.val; omega))
  rw [dif_neg (by omega), dif_neg h2]
  by_cases h3 : e.val < 6
  · rw [dif_pos (by omega), dif_pos h3, dtW_at]
    exact congrArg (fun j => W (ix2 k j)) (Fin.ext (by show 1024 + (e.val - 0) = 1024 + e.val; omega))
  rw [dif_neg (by omega), dif_neg h3]
  exact zero_at _

end Cert.InprojPacked
-- ==== Proof.InprojValue.lean ====
/- What the input projection's kernel leaves in its seven result arrays: `proj` at the columns of `w_in` each covers. -/
module

public import proofs.«01_k».proof.Proof.Gen.InprojIdeal.Value
public import proofs.«01_k».proof.Proof.InprojPure
public import proofs.«01_k».proof.Proof.InprojPacked
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.InprojIdeal.Final

open Cert.InprojIdeal Cert.InprojIdeal.Gen Cert.InprojPure Cert.InprojPacked

variable (m : (ℓ : Loc nD τ sig) → Buf (Elt Ideal) ℓ)

/-- The block each window is on at grid point `t`. -/
theorem idx : ∀ t : Fin cfg0.N, win0_0.index t = ![t.val, 0] ∧ win0_1.index t = ![t.val / 16, 0, 0] ∧ win0_2.index t = ![t.val / 16, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] := (by decide +kernel : ∀ t : Fin grid0.N, _)

/-- The five arguments. -/
abbrev aX (c : Dev nD) : FVec Ideal S65536x1024 .f32 := m (c, Proc.tc.devRef main_arg0)
abbrev aSH (c : Dev nD) : FVec Ideal S16x1024 .f32 := m (c, Proc.tc.devRef main_arg1)
abbrev aSC (c : Dev nD) : FVec Ideal S16x1024 .f32 := m (c, Proc.tc.devRef main_arg2)
abbrev aNW (c : Dev nD) : FVec Ideal S1024 .f32 := m (c, Proc.tc.devRef main_arg3)
abbrev aW (c : Dev nD) : FVec Ideal S1024x3090 .f32 := m (c, Proc.tc.devRef main_arg4)

/-- The contents of a host buffer after the first twenty operations of the line that prepares the call. -/
abbrev at20 (c : Dev nD) (b : Ref sig .tc) := StableHlo.upto (hostOps0 (F := Ideal)) (fun b => m (c, b)) 20 (Proc.devRef .tc b)

/-- The small group, where the line has reached the seven pieces. -/
theorem at20_small (c : Dev nD) : at20 m c main_v15 = small (aW m c) := by
  after_reads_simp
  rfl

/-- The weights the call is given are the packed columns of `w_in`. -/
theorem entry_w (c : Dev nD) : V m c main_v17 = packed (aW m c) := by
  show StableHlo.after hostOps0 (fun b => m (c, b)) (Proc.devRef .tc main_v17) = _
  after_reads_simp
  show side (at20 m c main_v0) (at20 m c main_v1) (at20 m c main_v3) (at20 m c main_v4) (at20 m c main_v5) (at20 m c main_v8) (at20 m c main_v15) = _
  rw [at20_small]
  after_reads_simp
  rfl

theorem blk_x (c : Dev nD) (t : Fin cfg0.N) (p : Fin 256) (k : Fin 1024) (h : 256 * t.val + p.val < 65536) :
    (iblk m c 0 t : FVec Ideal S256x1024 .f32) (ix2 p k) = aX m c (ix2 ⟨256 * t.val + p.val, h⟩ k) := by
  blk_point [iblk, idx t]

theorem blk_sh (c : Dev nD) (t : Fin cfg0.N) (k : Fin 1024) (h : t.val / 16 < 16) :
    (iblk m c 1 t : FVec Ideal S1x1x1024 .f32) (ix3 0 0 k) = aSH m c (ix2 ⟨t.val / 16, h⟩ k) := by
  blk_point [iblk, idx t]

theorem blk_sc (c : Dev nD) (t : Fin cfg0.N) (k : Fin 1024) (h : t.val / 16 < 16) :
    (iblk m c 2 t : FVec Ideal S1x1x1024 .f32) (ix3 0 0 k) = aSC m c (ix2 ⟨t.val / 16, h⟩ k) := by
  blk_point [iblk, idx t]

theorem blk_w (c : Dev nD) (t : Fin cfg0.N) (k : Fin 1024) (j : Fin 3200) :
    (iblk m c 4 t : FVec Ideal S1024x3200 .bf16) (ix2 k j) = packed (aW m c) (ix2 k j) := by
  rw [← entry_w]
  blk_point [iblk, idx t]

theorem blk_nw (c : Dev nD) (t : Fin cfg0.N) (k : Fin 1024) :
    (iblk m c 3 t : FVec Ideal S1x1024 .f32) (ix2 0 k) = aNW m c (ix1 k) := by
  blk_point [iblk, idx t]

/-- The normed block at grid point `t` is rows `256 t ..` of the normed rows. -/
theorem hid_blk (c : Dev nD) (t : Fin cfg0.N) (p : Fin 256) (k : Fin 1024) (h : 256 * t.val + p.val < 65536) :
    k0_pay6 (F := Ideal) (iblk m c 0 t) (iblk m c 3 t) (iblk m c 2 t) (iblk m c 1 t) (ix2 p k)
      = hid (aX m c) (aSH m c) (aSC m c) (aNW m c) ⟨256 * t.val + p.val, h⟩ k := by
  have hdiv : (256 * t.val + p.val) / 4096 = t.val / 16 := by omega
  have h16 : t.val / 16 < 16 := by omega
  rw [pay6_at]
  unfold hid
  simp only [hdiv, blk_x m c t p _ h, blk_nw m c t k, blk_sh m c t k h16, blk_sc m c t k h16]

/-- A result whose columns are `w_in`'s from column `off`. -/
def G {n : Nat} (off : Nat) (hoff : off + n ≤ 3090) (c : Dev nD) : FVec Ideal ⟨2, ![65536, n]⟩ .f32 := fun i =>
  proj (aX m c) (aSH m c) (aSC m c) (aNW m c) (aW m c) (i 0) ⟨off + (i 1).val, by have := (i 1).isLt; simp at this; omega⟩

/-- Rows `256 t ..` of the projection, from the block's normed rows and the packed columns of one result. -/
theorem proj_blk (c : Dev nD) (t : Fin cfg0.N) (p : Fin 256) (h : 256 * t.val + p.val < 65536) (w : Fin 1024 → EReal) (j : Fin 3090)
    (hw : ∀ k, w k = aW m c (ix2 k j)) :
    (∑ k : Fin 1024, k0_pay6 (F := Ideal) (iblk m c 0 t) (iblk m c 3 t) (iblk m c 2 t) (iblk m c 1 t) (ix2 p k) * w k)
      = proj (aX m c) (aSH m c) (aSC m c) (aNW m c) (aW m c) ⟨256 * t.val + p.val, h⟩ j := by
  unfold proj
  exact Finset.sum_congr rfl fun k _ => by rw [hid_blk m c t p k h, hw]

/-- The normed block the later products read is the one the first two read. -/
theorem pay9_eq (x : Vec Ideal S256x1024 .f32) (sh sc : Vec Ideal S1x1x1024 .f32) (nw : Vec Ideal S1x1024 .f32) (w : Vec Ideal S1024x3200 .bf16) :
    k0_pay9 (F := Ideal) x sh sc nw w = k0_pay6 x nw sc sh := by
  unfold k0_pay9
  frame_out

/-- The packed columns of `xbc`, as the body loads them. -/
theorem ld_xbc (c : Dev nD) (t : Fin cfg0.N) (k : Fin 1024) (q : Fin 640) :
    (View.ld (iblk m c 4 t : FVec Ideal S1024x3200 .bf16) r0_3) (ix2 k q) = aW m c (ix2 k ⟨q.val, by omega⟩) := by
  rw [← packed_xbc (aW m c) k q, ← blk_w m c t]
  pointwise

/-- The packed columns of `z`, as the body loads them. -/
theorem ld_z (c : Dev nD) (t : Fin cfg0.N) (k : Fin 1024) (q : Fin 384) :
    (View.ld (iblk m c 4 t : FVec Ideal S1024x3200 .bf16) r0_5) (ix2 k q) = aW m c (ix2 k ⟨640 + q.val, by omega⟩) := by
  rw [← packed_z (aW m c) k q, ← blk_w m c t]
  pointwise

/-- The packed columns of `u`, as the body loads them. -/
theorem ld_u (c : Dev nD) (t : Fin cfg0.N) (k : Fin 1024) (q : Fin 256) :
    (View.ld (iblk m c 4 t : FVec Ideal S1024x3200 .bf16) r0_7) (ix2 k q) = aW m c (ix2 k ⟨1030 + q.val, by omega⟩) := by
  rw [← packed_u (aW m c) k q, ← blk_w m c t]
  pointwise

/-- The packed columns of `v`, as the body loads them. -/
theorem ld_v (c : Dev nD) (t : Fin cfg0.N) (k : Fin 1024) (q : Fin 256) :
    (View.ld (iblk m c 4 t : FVec Ideal S1024x3200 .bf16) r0_9) (ix2 k q) = aW m c (ix2 k ⟨1286 + q.val, by omega⟩) := by
  rw [← packed_v (aW m c) k q, ← blk_w m c t]
  pointwise

/-- The packed columns of `qkv`, as the body loads them. -/
theorem ld_qkv (c : Dev nD) (t : Fin cfg0.N) (k : Fin 1024) (q : Fin 1152) :
    (View.ld (iblk m c 4 t : FVec Ideal S1024x3200 .bf16) r0_10) (ix2 k q) = aW m c (ix2 k ⟨1542 + q.val, by omega⟩) := by
  rw [← packed_qkv (aW m c) k q, ← blk_w m c t]
  pointwise

/-- The packed columns of `gg`, as the body loads them. -/
theorem ld_gg (c : Dev nD) (t : Fin cfg0.N) (k : Fin 1024) (q : Fin 384) :
    (View.ld (iblk m c 4 t : FVec Ideal S1024x3200 .bf16) r0_12) (ix2 k q) = aW m c (ix2 k ⟨2706 + q.val, by omega⟩) := by
  rw [← packed_gg (aW m c) k q, ← blk_w m c t]
  pointwise

/-- The packed columns of the small group, as the body loads them. -/
theorem ld_small (c : Dev nD) (t : Fin cfg0.N) (k : Fin 1024) (q : Fin 128) :
    (View.ld (iblk m c 4 t : FVec Ideal S1024x3200 .bf16) r0_13) (ix2 k q) = small (aW m c) (ix2 k q) := by
  rw [← packed_small (aW m c) k q, ← blk_w m c t]
  pointwise

/-- `xbc`. -/
theorem final5 (c : Dev nD) : (dats m 0 c).arrAt 5 (cfgs 0).N = G (n := 640) m 0 (by omega) c := by
  refine (dats m 0 c).arrAt_eq_of_covers 5 _ (by decide +kernel) fun t _ y => ?_
  blk_simp [idx t]
  rw [after0_5]; frame_out
  idx_vars y
  have ht : t.val < 256 := t.isLt
  have e : ((View.whole main_v21_0).slice (win0_5.rect t)).emb (ix2 y0 y1) = ix2 ⟨256 * t.val + y0.val, by omega⟩ y1 := by
    blk_ext [idx t]
  rw [pay7_at, e]
  exact proj_blk m c t y0 (by omega) _ _ fun k => by
    rw [ld_xbc]
    exact congrArg (fun j => aW m c (ix2 k j)) (Fin.ext (by show _ = 0 + y1.val; dsimp only <;> omega))

/-- `z`. -/
theorem final6 (c : Dev nD) : (dats m 0 c).arrAt 6 (cfgs 0).N = G (n := 384) m 640 (by omega) c := by
  refine (dats m 0 c).arrAt_eq_of_covers 6 _ (by decide +kernel) fun t _ y => ?_
  blk_simp [idx t]
  rw [after0_6]; frame_out
  idx_vars y
  have ht : t.val < 256 := t.isLt
  have e : ((View.whole main_v21_1).slice (win0_6.rect t)).emb (ix2 y0 y1) = ix2 ⟨256 * t.val + y0.val, by omega⟩ y1 := by
    blk_ext [idx t]
  rw [pay8_at, e]
  exact proj_blk m c t y0 (by omega) _ _ fun k => by
    rw [ld_z]
    exact congrArg (fun j => aW m c (ix2 k j)) (Fin.ext (by show _ = 640 + y1.val; dsimp only <;> omega))

/-- `u`. -/
theorem final7 (c : Dev nD) : (dats m 0 c).arrAt 7 (cfgs 0).N = G (n := 256) m 1030 (by omega) c := by
  refine (dats m 0 c).arrAt_eq_of_covers 7 _ (by decide +kernel) fun t _ y => ?_
  blk_simp [idx t]
  rw [after0_7]; frame_out
  idx_vars y
  have ht : t.val < 256 := t.isLt
  have e : ((View.whole main_v21_2).slice (win0_7.rect t)).emb (ix2 y0 y1) = ix2 ⟨256 * t.val + y0.val, by omega⟩ y1 := by
    blk_ext [idx t]
  rw [pay9_eq, pay1_at, e]
  exact proj_blk m c t y0 (by omega) _ _ fun k => by
    rw [ld_u]
    exact congrArg (fun j => aW m c (ix2 k j)) (Fin.ext (by show _ = 1030 + y1.val; dsimp only <;> omega))

/-- `v`. -/
theorem final8 (c : Dev nD) : (dats m 0 c).arrAt 8 (cfgs 0).N = G (n := 256) m 1286 (by omega) c := by
  refine (dats m 0 c).arrAt_eq_of_covers 8 _ (by decide +kernel) fun t _ y => ?_
  blk_simp [idx t]
  rw [after0_8]; frame_out
  idx_vars y
  have ht : t.val < 256 := t.isLt
  have e : ((View.whole main_v21_3).slice (win0_8.rect t)).emb (ix2 y0 y1) = ix2 ⟨256 * t.val + y0.val, by omega⟩ y1 := by
    blk_ext [idx t]
  rw [pay9_eq, pay2_at, e]
  exact proj_blk m c t y0 (by omega) _ _ fun k => by
    rw [ld_v]
    exact congrArg (fun j => aW m c (ix2 k j)) (Fin.ext (by show _ = 1286 + y1.val; dsimp only <;> omega))

/-- `qkv`. -/
theorem final9 (c : Dev nD) : (dats m 0 c).arrAt 9 (cfgs 0).N = G (n := 1152) m 1542 (by omega) c := by
  refine (dats m 0 c).arrAt_eq_of_covers 9 _ (by decide +kernel) fun t _ y => ?_
  blk_simp [idx t]
  rw [after0_9]; frame_out
  idx_vars y
  have ht : t.val < 256 := t.isLt
  have e : ((View.whole main_v21_4).slice (win0_9.rect t)).emb (ix2 y0 y1) = ix2 ⟨256 * t.val + y0.val, by omega⟩ y1 := by
    blk_ext [idx t]
  rw [pay9_eq, pay3_at, e]
  exact proj_blk m c t y0 (by omega) _ _ fun k => by
    rw [ld_qkv]
    exact congrArg (fun j => aW m c (ix2 k j)) (Fin.ext (by show _ = 1542 + y1.val; dsimp only <;> omega))

/-- `gg`. -/
theorem final10 (c : Dev nD) : (dats m 0 c).arrAt 10 (cfgs 0).N = G (n := 384) m 2706 (by omega) c := by
  refine (dats m 0 c).arrAt_eq_of_covers 10 _ (by decide +kernel) fun t _ y => ?_
  blk_simp [idx t]
  rw [after0_10]; frame_out
  idx_vars y
  have ht : t.val < 256 := t.isLt
  have e : ((View.whole main_v21_5).slice (win0_10.rect t)).emb (ix2 y0 y1) = ix2 ⟨256 * t.val + y0.val, by omega⟩ y1 := by
    blk_ext [idx t]
  rw [pay9_eq, pay4_at, e]
  exact proj_blk m c t y0 (by omega) _ _ fun k => by
    rw [ld_gg]
    exact congrArg (fun j => aW m c (ix2 k j)) (Fin.ext (by show _ = 2706 + y1.val; dsimp only <;> omega))

/-- The small group's result: the projection on `dt`, `ga` and `gb`'s columns, zero between. -/
def GS (c : Dev nD) : FVec Ideal S65536x128 .f32 := fun i =>
  if h : 16 ≤ (i 1).val ∧ (i 1).val < 22 then proj (aX m c) (aSH m c) (aSC m c) (aNW m c) (aW m c) (i 0) ⟨2684 + (i 1).val, by omega⟩
  else if h : 8 ≤ (i 1).val ∧ (i 1).val < 14 then proj (aX m c) (aSH m c) (aSC m c) (aNW m c) (aW m c) (i 0) ⟨2686 + (i 1).val, by omega⟩
  else if h : (i 1).val < 6 then proj (aX m c) (aSH m c) (aSC m c) (aNW m c) (aW m c) (i 0) ⟨1024 + (i 1).val, by omega⟩ else (0 : EReal)

theorem final11 (c : Dev nD) : (dats m 0 c).arrAt 11 (cfgs 0).N = GS m c := by
  refine (dats m 0 c).arrAt_eq_of_covers 11 _ (by decide +kernel) fun t _ y => ?_
  blk_simp [idx t]
  rw [after0_11]; frame_out
  idx_vars y
  have ht : t.val < 256 := t.isLt
  have e : ((View.whole main_v21_6).slice (win0_11.rect t)).emb (ix2 y0 y1) = ix2 ⟨256 * t.val + y0.val, by omega⟩ y1 := by
    blk_ext [idx t]
  rw [pay9_eq, pay5_at, e]
  show _ = (if h : 16 ≤ y1.val ∧ y1.val < 22 then proj (aX m c) (aSH m c) (aSC m c) (aNW m c) (aW m c) ⟨256 * t.val + y0.val, by omega⟩ ⟨2684 + y1.val, by omega⟩
    else if h : 8 ≤ y1.val ∧ y1.val < 14 then proj (aX m c) (aSH m c) (aSC m c) (aNW m c) (aW m c) ⟨256 * t.val + y0.val, by omega⟩ ⟨2686 + y1.val, by omega⟩
    else if h : y1.val < 6 then proj (aX m c) (aSH m c) (aSC m c) (aNW m c) (aW m c) ⟨256 * t.val + y0.val, by omega⟩ ⟨1024 + y1.val, by omega⟩ else (0 : EReal))
  split_ifs with h1 h2 h3
  · exact proj_blk m c t y0 (by omega) _ _ fun k => by rw [ld_small, small_at, dif_pos h1]
  · exact proj_blk m c t y0 (by omega) _ _ fun k => by rw [ld_small, small_at, dif_neg h1, dif_pos h2]
  · exact proj_blk m c t y0 (by omega) _ _ fun k => by rw [ld_small, small_at, dif_neg h1, dif_neg h2, dif_pos h3]
  · refine Finset.sum_eq_zero fun k _ => ?_
    rw [ld_small, small_at, dif_neg h1, dif_neg h2, dif_neg h3]
    exact mul_zero _

end Cert.InprojIdeal.Final
-- ==== Proof.InprojRef.lean ====
/- The input projection's reference, its seven results by index: `proj` at the columns of `w_in` each covers. -/
module

public import proofs.«01_k».proof.Proof.InprojPure

@[expose] public section

set_option maxRecDepth 16384

noncomputable section

open Idealize.ShloMosaic Idealize.ShloMosaic.TcCoe Idealize.SL.Sem

namespace Cert.InprojReferenceIdeal.Results

open Cert.InprojReferenceIdeal Cert.InprojReferenceIdeal.Gen Cert.InprojReferenceIdeal.Read Cert.InprojPure

variable (X : FVec Ideal S65536x1024 .f32) (SH SC : FVec Ideal S16x1024 .f32) (NW : FVec Ideal S1024 .f32) (W : FVec Ideal S1024x3090 .f32)

/-- `xbc`. -/
theorem ref_xbc (r : Fin 65536) (q : Fin 640) : val_main_v24 (F := Ideal) X SH SC NW W (ix2 r q) = proj X SH SC NW W r ⟨0 + q.val, by omega⟩ := by
  rw [← ref_proj]
  pointwise [val_main_v24]

/-- `z`. -/
theorem ref_z (r : Fin 65536) (q : Fin 384) : val_main_v25 (F := Ideal) X SH SC NW W (ix2 r q) = proj X SH SC NW W r ⟨640 + q.val, by omega⟩ := by
  rw [← ref_proj]
  pointwise [val_main_v25]

/-- `u`. -/
theorem ref_u (r : Fin 65536) (q : Fin 256) : val_main_v27 (F := Ideal) X SH SC NW W (ix2 r q) = proj X SH SC NW W r ⟨1030 + q.val, by omega⟩ := by
  rw [← ref_proj]
  pointwise [val_main_v27]

/-- `v`. -/
theorem ref_v (r : Fin 65536) (q : Fin 256) : val_main_v28 (F := Ideal) X SH SC NW W (ix2 r q) = proj X SH SC NW W r ⟨1286 + q.val, by omega⟩ := by
  rw [← ref_proj]
  pointwise [val_main_v28]

/-- `qkv`. -/
theorem ref_qkv (r : Fin 65536) (q : Fin 1152) : val_main_v29 (F := Ideal) X SH SC NW W (ix2 r q) = proj X SH SC NW W r ⟨1542 + q.val, by omega⟩ := by
  rw [← ref_proj]
  pointwise [val_main_v29]

/-- `gg`. -/
theorem ref_gg (r : Fin 65536) (q : Fin 384) : val_main_v32 (F := Ideal) X SH SC NW W (ix2 r q) = proj X SH SC NW W r ⟨2706 + q.val, by omega⟩ := by
  rw [← ref_proj]
  pointwise [val_main_v32]

theorem ref_dt (r : Fin 65536) (q : Fin 6) : val_main_v26 (F := Ideal) X SH SC NW W (ix2 r q) = proj X SH SC NW W r ⟨1024 + q.val, by omega⟩ := by
  rw [← ref_proj]
  pointwise [val_main_v26]

theorem ref_ga (r : Fin 65536) (q : Fin 6) : val_main_v30 (F := Ideal) X SH SC NW W (ix2 r q) = proj X SH SC NW W r ⟨2694 + q.val, by omega⟩ := by
  rw [← ref_proj]
  pointwise [val_main_v30]

theorem ref_gb (r : Fin 65536) (q : Fin 6) : val_main_v31 (F := Ideal) X SH SC NW W (ix2 r q) = proj X SH SC NW W r ⟨2700 + q.val, by omega⟩ := by
  rw [← ref_proj]
  pointwise [val_main_v31]

theorem ref_gap (i : S65536x2.Idx) : val_main_v33 (F := Ideal) i = (0 : EReal) := by pointwise [val_main_v33, val_main_cst_3]

theorem ref_rest (i : S65536x106.Idx) : val_main_v34 (F := Ideal) i = (0 : EReal) := by pointwise [val_main_v34, val_main_cst_4]

/-- The small group: `dt`, `ga` and `gb` side by side, zeros between and after. -/
theorem ref_small (r : Fin 65536) (e : Fin 128) : val_main_v35 (F := Ideal) X SH SC NW W (ix2 r e)
    = (if h : 16 ≤ e.val ∧ e.val < 22 then proj X SH SC NW W r ⟨2684 + e.val, by omega⟩
      else if h : 8 ≤ e.val ∧ e.val < 14 then proj X SH SC NW W r ⟨2686 + e.val, by omega⟩
      else if h : e.val < 6 then proj X SH SC NW W r ⟨1024 + e.val, by omega⟩ else (0 : EReal) : EReal) := by
  pointwise [val_main_v35]
  simp only [ref_gap, ref_rest, ref_dt, ref_ga, ref_gb]
  repeat' split
  all_goals first | (exfalso; omega) | rfl | exact congrArg (fun j => proj X SH SC NW W r j) (Fin.ext (by dsimp only <;> omega))

end Cert.InprojReferenceIdeal.Results
-- ==== Proof.InprojEquation.lean ====
/- The input projection's equation: each result array of the kernel is the reference's. -/
module

public import proofs.«01_k».proof.Proof.InprojValue
public import proofs.«01_k».proof.Proof.InprojRef

@[expose] public section

set_option maxRecDepth 16384

noncomputable section

open Idealize.ShloMosaic Idealize.ShloMosaic.TcCoe Idealize.SL.Sem

namespace Cert.InprojEquation

open Cert.InprojIdeal Cert.InprojIdeal.Gen Cert.InprojIdeal.Final Cert.InprojReferenceIdeal.Results Cert.InprojReferenceIdeal.Read

variable (m : (ℓ : Loc nD τ sig) → Buf (Elt Ideal) ℓ) (c : Dev nD)

theorem eq_xbc : (dats m 0 c).arrAt 5 (cfgs 0).N = val_main_v24 (F := Ideal) (aX m c) (aSH m c) (aSC m c) (aNW m c) (aW m c) := by
  rw [final5]
  funext i
  idx_vars i
  exact (ref_xbc _ _ _ _ _ i0 i1).symm

theorem eq_z : (dats m 0 c).arrAt 6 (cfgs 0).N = val_main_v25 (F := Ideal) (aX m c) (aSH m c) (aSC m c) (aNW m c) (aW m c) := by
  rw [final6]
  funext i
  idx_vars i
  exact (ref_z _ _ _ _ _ i0 i1).symm

theorem eq_u : (dats m 0 c).arrAt 7 (cfgs 0).N = val_main_v27 (F := Ideal) (aX m c) (aSH m c) (aSC m c) (aNW m c) (aW m c) := by
  rw [final7]
  funext i
  idx_vars i
  exact (ref_u _ _ _ _ _ i0 i1).symm

theorem eq_v : (dats m 0 c).arrAt 8 (cfgs 0).N = val_main_v28 (F := Ideal) (aX m c) (aSH m c) (aSC m c) (aNW m c) (aW m c) := by
  rw [final8]
  funext i
  idx_vars i
  exact (ref_v _ _ _ _ _ i0 i1).symm

theorem eq_qkv : (dats m 0 c).arrAt 9 (cfgs 0).N = val_main_v29 (F := Ideal) (aX m c) (aSH m c) (aSC m c) (aNW m c) (aW m c) := by
  rw [final9]
  funext i
  idx_vars i
  exact (ref_qkv _ _ _ _ _ i0 i1).symm

theorem eq_gg : (dats m 0 c).arrAt 10 (cfgs 0).N = val_main_v32 (F := Ideal) (aX m c) (aSH m c) (aSC m c) (aNW m c) (aW m c) := by
  rw [final10]
  funext i
  idx_vars i
  exact (ref_gg _ _ _ _ _ i0 i1).symm

theorem eq_small : (dats m 0 c).arrAt 11 (cfgs 0).N = val_main_v35 (F := Ideal) (aX m c) (aSH m c) (aSC m c) (aNW m c) (aW m c) := by
  rw [final11]
  funext i
  idx_vars i
  exact (ref_small _ _ _ _ _ i0 i1).symm

end Cert.InprojEquation
-- ==== Proof.OutprojPure.lean ====
/- The output projection as mathematics: the residual row after the branches' mix, its modulated norm, and what the kernel's
   payloads and the reference's operations read at an index. -/
module

public import proofs.«01_k».proof.Proof.Gen.OutprojIdeal.Skeleton
public import proofs.«01_k».proof.Proof.Gen.OutprojReferenceIdeal.Read
public import Idealize.ShloMosaic.Lib.Pointwise

@[expose] public section

set_option maxRecDepth 16384

noncomputable section

open Idealize.ShloMosaic Idealize.ShloMosaic.TcCoe Idealize.SL.Sem

namespace Cert.OutprojPure

/-- The sequence row `r` lies in: sequences have 4096 rows each. -/
abbrev seqOf (r : Fin 65536) : Fin 16 := ⟨r.val / 4096, by have := r.isLt; omega⟩

/-- Entry `j` of row `r` of the branches' mix: the three branches' rows side by side, times the output weights. -/
def mixed (YA : FVec Ideal ⟨2, ![65536, 384]⟩ .f32) (YB : FVec Ideal ⟨2, ![65536, 256]⟩ .f32) (YC : FVec Ideal ⟨2, ![65536, 384]⟩ .f32)
    (W : FVec Ideal ⟨2, ![1024, 1024]⟩ .f32) (r : Fin 65536) (j : Fin 1024) : EReal :=
  (∑ k : Fin 384, YA (ix2 r k) * W (ix2 ⟨k.val, by omega⟩ j)) + (∑ k : Fin 256, YB (ix2 r k) * W (ix2 ⟨384 + k.val, by omega⟩ j))
    + ∑ k : Fin 384, YC (ix2 r k) * W (ix2 ⟨640 + k.val, by omega⟩ j)

/-- The residual row: the input plus the gated mix. -/
def resid (X : FVec Ideal ⟨2, ![65536, 1024]⟩ .f32) (YA : FVec Ideal ⟨2, ![65536, 384]⟩ .f32) (YB : FVec Ideal ⟨2, ![65536, 256]⟩ .f32)
    (YC : FVec Ideal ⟨2, ![65536, 384]⟩ .f32) (GA : FVec Ideal ⟨2, ![16, 1024]⟩ .f32) (W : FVec Ideal ⟨2, ![1024, 1024]⟩ .f32)
    (r : Fin 65536) (j : Fin 1024) : EReal :=
  X (ix2 r j) + GA (ix2 (seqOf r) j) * mixed YA YB YC W r j

/-- A row over the root of its mean square, times the weight, scaled and shifted. -/
def normed (x nw sc sh : Fin 1024 → EReal) (j : Fin 1024) : EReal :=
  x j * Ideal.rsqrt (Ideal.div (∑ l : Fin 1024, x l * x l) (Ideal.ofBits .f32 0x44800000#32) + Ideal.ofBits .f32 0x358637BD#32) * nw j
    * (1 + sc j) + sh j

/-- Entry `j` of row `r` of the residual's modulated norm. -/
def hid2 (X : FVec Ideal ⟨2, ![65536, 1024]⟩ .f32) (YA : FVec Ideal ⟨2, ![65536, 384]⟩ .f32) (YB : FVec Ideal ⟨2, ![65536, 256]⟩ .f32)
    (YC : FVec Ideal ⟨2, ![65536, 384]⟩ .f32) (GA SC SH : FVec Ideal ⟨2, ![16, 1024]⟩ .f32) (NW : FVec Ideal ⟨1, ![1024]⟩ .f32)
    (W : FVec Ideal ⟨2, ![1024, 1024]⟩ .f32) (r : Fin 65536) (j : Fin 1024) : EReal :=
  normed (resid X YA YB YC GA W r) (fun k => NW (ix1 k)) (fun k => SC (ix2 (seqOf r) k)) (fun k => SH (ix2 (seqOf r) k)) j

/-- A sum over 1024 entries, cut where the branches meet. -/
theorem sum_cut (f : Fin 1024 → EReal) :
    ∑ x, f x = (∑ k : Fin 384, f ⟨k.val, by omega⟩) + (∑ k : Fin 256, f ⟨384 + k.val, by omega⟩) + ∑ k : Fin 384, f ⟨640 + k.val, by omega⟩ := by
  have h1 : ∑ x : Fin 1024, f x = ∑ x : Fin (384 + 256 + 384), f x := rfl
  rw [h1, Fin.sum_univ_add, Fin.sum_univ_add]
  rfl

section Reference
open Cert.OutprojReferenceIdeal Cert.OutprojReferenceIdeal.Gen Cert.OutprojReferenceIdeal.Read

variable (X : FVec Ideal S65536x1024 .f32) (YA : FVec Ideal S65536x384 .f32) (YB : FVec Ideal S65536x256 .f32) (YC : FVec Ideal S65536x384 .f32)
  (GA SC SH : FVec Ideal S16x1024 .f32) (NW : FVec Ideal S1024 .f32) (W : FVec Ideal S1024x1024 .f32)

/-- The reference's product over the branches side by side is the sum of the three products. -/
theorem ref_mixed (r : Fin 65536) (j : Fin 1024) : val_main_v2 (F := Ideal) YA YB YC W (ix2 r j) = mixed YA YB YC W r j := by
  pointwise [val_main_v2, val_main_v1]
  rw [sum_cut]
  unfold mixed
  refine congrArg₂ _ (congrArg₂ _ (Finset.sum_congr rfl fun k _ => ?_) (Finset.sum_congr rfl fun k _ => ?_)) (Finset.sum_congr rfl fun k _ => ?_)
  · rw [dif_pos (by exact k.isLt)]
  · rw [dif_neg (by show ¬ (384 + k.val < 384); omega), dif_pos (by show 384 + k.val - 384 < 256; omega)]
    exact congrArg (fun q => YB (ix2 r q) * _) (Fin.ext (by show 384 + k.val - 384 = k.val; omega))
  · rw [dif_neg (by show ¬ (640 + k.val < 384); omega), dif_neg (by show ¬ (640 + k.val - 384 < 256); omega)]
    exact congrArg (fun q => YC (ix2 r q) * _) (Fin.ext (by show 640 + k.val - 384 - 256 = k.val; omega))

/-- The reference's residual, a sequence at a time. -/
theorem ref_resid3 (b : Fin 16) (p : Fin 4096) (j : Fin 1024) :
    val_main_v7 (F := Ideal) X YA YB YC GA W (ix3 b p j) = resid X YA YB YC GA W ⟨b.val * 4096 + p.val, by omega⟩ j := by
  have hb : seqOf ⟨b.val * 4096 + p.val, by omega⟩ = b := Fin.ext (by show (b.val * 4096 + p.val) / 4096 = b.val; omega)
  unfold resid
  rw [hb, ← ref_mixed]
  pointwise [val_main_v7, val_main_v6, val_main_v5, val_main_v4, val_main_v3, val_main_v0]

/-- The reference's normed rows, a sequence at a time. -/
theorem ref_hid3 (b : Fin 16) (p : Fin 4096) (j : Fin 1024) :
    val_main_v28 (F := Ideal) X YA YB YC GA SC SH NW W (ix3 b p j)
      = normed (fun k => val_main_v7 (F := Ideal) X YA YB YC GA W (ix3 b p k)) (fun k => NW (ix1 k)) (fun k => SC (ix2 b k)) (fun k => SH (ix2 b k)) j := by
  unfold normed
  pointwise [val_main_v28, val_main_v27, val_main_v26, val_main_v25, val_main_v24, val_main_v23, val_main_v22, val_main_cst_2, val_main_v21,
    val_main_v20, val_main_v19, val_main_v18, val_main_v17, val_main_v16, val_main_v15, val_main_v14, val_main_v13, val_main_cst_1, val_main_v12,
    val_main_v11, val_main_cst_0, val_main_v10, val_main_v9, val_main_cst, val_main_v8]

/-- The reference's first result: the residual. -/
theorem ref_resid (r : Fin 65536) (j : Fin 1024) :
    val_main_v29 (F := Ideal) X YA YB YC GA W (ix2 r j) = resid X YA YB YC GA W r j := by
  have e : val_main_v29 (F := Ideal) X YA YB YC GA W (ix2 r j)
      = val_main_v7 (F := Ideal) X YA YB YC GA W (ix3 (seqOf r) ⟨r.val % 4096, by omega⟩ j) := by
    pointwise [val_main_v29]
  rw [e, ref_resid3]
  exact congrArg (fun s => resid X YA YB YC GA W s j) (Fin.ext (by show r.val / 4096 * 4096 + r.val % 4096 = r.val; omega))

/-- The reference's second result: the modulated norm. -/
theorem ref_hid2 (r : Fin 65536) (j : Fin 1024) :
    val_main_v30 (F := Ideal) X YA YB YC GA SC SH NW W (ix2 r j) = hid2 X YA YB YC GA SC SH NW W r j := by
  have e : val_main_v30 (F := Ideal) X YA YB YC GA SC SH NW W (ix2 r j)
      = val_main_v28 (F := Ideal) X YA YB YC GA SC SH NW W (ix3 (seqOf r) ⟨r.val % 4096, by omega⟩ j) := by
    pointwise [val_main_v30]
  have hr : (⟨(seqOf r).val * 4096 + r.val % 4096, by have := r.isLt; show r.val / 4096 * 4096 + _ < _; omega⟩ : Fin 65536) = r :=
    Fin.ext (by show r.val / 4096 * 4096 + r.val % 4096 = r.val; omega)
  rw [e, ref_hid3]
  unfold hid2
  congr 1
  funext k
  rw [ref_resid3]
  exact congrArg (fun s => resid X YA YB YC GA W s k) hr

end Reference

section Kernel
open Cert.OutprojIdeal Cert.OutprojIdeal.Gen

/-- The residual block. -/
theorem pay1_at (ya : Vec Ideal S256x384 .f32) (wa : Vec Ideal S384x1024 .bf16) (yb : Vec Ideal S256x256 .f32) (wb : Vec Ideal S256x1024 .bf16)
    (yc : Vec Ideal S256x384 .f32) (wc : Vec Ideal S384x1024 .bf16) (x : Vec Ideal S256x1024 .f32) (ga : Vec Ideal S1x1x1024 .f32)
    (p : Fin 256) (j : Fin 1024) :
    k0_pay1 (F := Ideal) ya wa yb wb yc wc x ga (ix2 p j)
      = x (ix2 p j) + ga (ix3 0 0 j) * ((∑ k : Fin 384, ya (ix2 p k) * wa (ix2 k j)) + (∑ k : Fin 256, yb (ix2 p k) * wb (ix2 k j))
          + ∑ k : Fin 384, yc (ix2 p k) * wc (ix2 k j)) := by
  pointwise [k0_pay1]

/-- The normed block, from the residual block. -/
theorem pay4_at (v : FVec Ideal S256x1024 .f32) (nw : Vec Ideal S1x1024 .f32) (sc sh : Vec Ideal S1x1x1024 .f32) (p : Fin 256) (j : Fin 1024) :
    k0_pay4 (F := Ideal) v (k0_pay2 nw) (k0_pay3 sc) sh (ix2 p j)
      = normed (fun k => v (ix2 p k)) (fun k => nw (ix2 0 k)) (fun k => sc (ix3 0 0 k)) (fun k => sh (ix3 0 0 k)) j := by
  unfold normed
  pointwise [k0_pay4, k0_pay2, k0_pay3]

end Kernel

end Cert.OutprojPure
-- ==== Proof.OutprojValue.lean ====
/- What the output projection's kernel leaves in its first two result arrays: the residual and its modulated norm. -/
module

public import proofs.«01_k».proof.Proof.Gen.OutprojIdeal.Value
public import proofs.«01_k».proof.Proof.OutprojPure
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OutprojIdeal.Final

open Cert.OutprojIdeal Cert.OutprojIdeal.Gen Cert.OutprojPure

variable (m : (ℓ : Loc nD τ sig) → Buf (Elt Ideal) ℓ)

/-- The block each window the two results are made of is on at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val / 16, 0, 0] ∧ win0_8.index t = ![0, 0] ∧ win0_9.index t = ![t.val / 16, 0, 0]
    ∧ win0_10.index t = ![t.val / 16, 0, 0] ∧ win0_13.index t = ![t.val, 0] ∧ win0_14.index t = ![t.val, 0] :=
  (by decide +kernel : ∀ t : Fin grid0.N, _)

/-- The arguments the two results read. -/
abbrev aX (c : Dev nD) : FVec Ideal S65536x1024 .f32 := m (c, Proc.tc.devRef main_arg0)
abbrev aYA (c : Dev nD) : FVec Ideal S65536x384 .f32 := m (c, Proc.tc.devRef main_arg1)
abbrev aYB (c : Dev nD) : FVec Ideal S65536x256 .f32 := m (c, Proc.tc.devRef main_arg2)
abbrev aYC (c : Dev nD) : FVec Ideal S65536x384 .f32 := m (c, Proc.tc.devRef main_arg3)
abbrev aGA (c : Dev nD) : FVec Ideal S16x1024 .f32 := m (c, Proc.tc.devRef main_arg4)
abbrev aSC (c : Dev nD) : FVec Ideal S16x1024 .f32 := m (c, Proc.tc.devRef main_arg5)
abbrev aSH (c : Dev nD) : FVec Ideal S16x1024 .f32 := m (c, Proc.tc.devRef main_arg6)
abbrev aNW (c : Dev nD) : FVec Ideal S1024 .f32 := m (c, Proc.tc.devRef main_arg7)
abbrev aW (c : Dev nD) : FVec Ideal S1024x1024 .f32 := m (c, Proc.tc.devRef main_arg8)

theorem blk_x (c : Dev nD) (t : Fin cfg0.N) (p : Fin 256) (k : Fin 1024) (h : 256 * t.val + p.val < 65536) :
    (iblk m c 0 t : FVec Ideal S256x1024 .f32) (ix2 p k) = aX m c (ix2 ⟨256 * t.val + p.val, h⟩ k) := by
  blk_point [iblk, idx t]

theorem blk_ya (c : Dev nD) (t : Fin cfg0.N) (p : Fin 256) (k : Fin 384) (h : 256 * t.val + p.val < 65536) :
    (iblk m c 1 t : FVec Ideal S256x384 .f32) (ix2 p k) = aYA m c (ix2 ⟨256 * t.val + p.val, h⟩ k) := by
  blk_point [iblk, idx t]

theorem blk_yb (c : Dev nD) (t : Fin cfg0.N) (p : Fin 256) (k : Fin 256) (h : 256 * t.val + p.val < 65536) :
    (iblk m c 2 t : FVec Ideal S256x256 .f32) (ix2 p k) = aYB m c (ix2 ⟨256 * t.val + p.val, h⟩ k) := by
  blk_point [iblk, idx t]

theorem blk_yc (c : Dev nD) (t : Fin cfg0.N) (p : Fin 256) (k : Fin 384) (h : 256 * t.val + p.val < 65536) :
    (iblk m c 3 t : FVec Ideal S256x384 .f32) (ix2 p k) = aYC m c (ix2 ⟨256 * t.val + p.val, h⟩ k) := by
  blk_point [iblk, idx t]

/-- The rows of the output weights each branch meets. -/
theorem blk_wa (c : Dev nD) (t : Fin cfg0.N) (k : Fin 384) (j : Fin 1024) :
    (iblk m c 4 t : FVec Ideal S384x1024 .bf16) (ix2 k j) = aW m c (ix2 ⟨k.val, by omega⟩ j) := by
  blk_point [iblk, idx t]

theorem blk_wb (c : Dev nD) (t : Fin cfg0.N) (k : Fin 256) (j : Fin 1024) :
    (iblk m c 5 t : FVec Ideal S256x1024 .bf16) (ix2 k j) = aW m c (ix2 ⟨384 + k.val, by omega⟩ j) := by
  blk_point [iblk, idx t]

theorem blk_wc (c : Dev nD) (t : Fin cfg0.N) (k : Fin 384) (j : Fin 1024) :
    (iblk m c 6 t : FVec Ideal S384x1024 .bf16) (ix2 k j) = aW m c (ix2 ⟨640 + k.val, by omega⟩ j) := by
  blk_point [iblk, idx t]

/-- A sequence's conditioning, and the norm's weight. -/
theorem blk_ga (c : Dev nD) (t : Fin cfg0.N) (k : Fin 1024) (h : t.val / 16 < 16) :
    (iblk m c 7 t : FVec Ideal S1x1x1024 .f32) (ix3 0 0 k) = aGA m c (ix2 ⟨t.val / 16, h⟩ k) := by
  blk_point [iblk, idx t]

theorem blk_nw (c : Dev nD) (t : Fin cfg0.N) (k : Fin 1024) :
    (iblk m c 8 t : FVec Ideal S1x1024 .f32) (ix2 0 k) = aNW m c (ix1 k) := by
  blk_point [iblk, idx t]

theorem blk_sc (c : Dev nD) (t : Fin cfg0.N) (k : Fin 1024) (h : t.val / 16 < 16) :
    (iblk m c 9 t : FVec Ideal S1x1x1024 .f32) (ix3 0 0 k) = aSC m c (ix2 ⟨t.val / 16, h⟩ k) := by
  blk_point [iblk, idx t]

theorem blk_sh (c : Dev nD) (t : Fin cfg0.N) (k : Fin 1024) (h : t.val / 16 < 16) :
    (iblk m c 10 t : FVec Ideal S1x1x1024 .f32) (ix3 0 0 k) = aSH m c (ix2 ⟨t.val / 16, h⟩ k) := by
  blk_point [iblk, idx t]

/-- The residual block at grid point `t` is rows `256 t ..` of the residual. -/
theorem resid_blk (c : Dev nD) (t : Fin cfg0.N) (p : Fin 256) (j : Fin 1024) (h : 256 * t.val + p.val < 65536) :
    k0_pay1 (F := Ideal) (iblk m c 1 t) (iblk m c 4 t) (iblk m c 2 t) (iblk m c 5 t) (iblk m c 3 t) (iblk m c 6 t) (iblk m c 0 t) (iblk m c 7 t)
        (ix2 p j)
      = resid (aX m c) (aYA m c) (aYB m c) (aYC m c) (aGA m c) (aW m c) ⟨256 * t.val + p.val, h⟩ j := by
  have hdiv : (256 * t.val + p.val) / 4096 = t.val / 16 := by omega
  have h16 : t.val / 16 < 16 := by omega
  rw [pay1_at]
  unfold resid mixed seqOf
  simp only [hdiv, blk_x m c t p _ h, blk_ya m c t p _ h, blk_yb m c t p _ h, blk_yc m c t p _ h, blk_wa, blk_wb, blk_wc, blk_ga m c t _ h16]

/-- The normed block at grid point `t` is rows `256 t ..` of the residual's norm. -/
theorem hid_blk (c : Dev nD) (t : Fin cfg0.N) (p : Fin 256) (j : Fin 1024) (h : 256 * t.val + p.val < 65536) :
    k0_pay4 (F := Ideal) (k0_pay1 (F := Ideal) (iblk m c 1 t) (iblk m c 4 t) (iblk m c 2 t) (iblk m c 5 t) (iblk m c 3 t) (iblk m c 6 t)
        (iblk m c 0 t) (iblk m c 7 t)) (k0_pay2 (iblk m c 8 t)) (k0_pay3 (iblk m c 9 t)) (iblk m c 10 t) (ix2 p j)
      = hid2 (aX m c) (aYA m c) (aYB m c) (aYC m c) (aGA m c) (aSC m c) (aSH m c) (aNW m c) (aW m c) ⟨256 * t.val + p.val, h⟩ j := by
  have hdiv : (256 * t.val + p.val) / 4096 = t.val / 16 := by omega
  have h16 : t.val / 16 < 16 := by omega
  rw [pay4_at]
  unfold hid2 seqOf
  simp only [hdiv, resid_blk m c t p _ h, blk_nw, blk_sc m c t _ h16, blk_sh m c t _ h16]

/-- The residual, whole. -/
def GX (c : Dev nD) : FVec Ideal S65536x1024 .f32 := fun i =>
  resid (aX m c) (aYA m c) (aYB m c) (aYC m c) (aGA m c) (aW m c) (i 0) (i 1)

/-- Its modulated norm, whole. -/
def GH (c : Dev nD) : FVec Ideal S65536x1024 .f32 := fun i =>
  hid2 (aX m c) (aYA m c) (aYB m c) (aYC m c) (aGA m c) (aSC m c) (aSH m c) (aNW m c) (aW m c) (i 0) (i 1)

theorem final13 (c : Dev nD) : (dats m 0 c).arrAt 13 (cfgs 0).N = GX m c := by
  refine (dats m 0 c).arrAt_eq_of_covers 13 _ (by decide +kernel) fun t _ y => ?_
  blk_simp [idx t]
  rw [after0_13]; frame_out
  idx_vars y
  have ht : t.val < 256 := t.isLt
  have e : ((View.whole main_v11_0).slice (win0_13.rect t)).emb (ix2 y0 y1) = ix2 ⟨256 * t.val + y0.val, by omega⟩ y1 := by
    blk_ext [idx t]
  rw [e]
  exact resid_blk m c t y0 y1 (by omega)

/-- The second result's buffer after the body, from the blocks. -/
theorem out14_eq (x0 : Vec Ideal S256x1024 .f32) (x1 : Vec Ideal S256x384 .f32) (x2 : Vec Ideal S256x256 .f32) (x3 : Vec Ideal S256x384 .f32)
    (x4 : Vec Ideal S384x1024 .bf16) (x5 : Vec Ideal S256x1024 .bf16) (x6 : Vec Ideal S384x1024 .bf16) (x7 : Vec Ideal S1x1x1024 .f32)
    (x8 : Vec Ideal S1x1024 .f32) (x9 x10 : Vec Ideal S1x1x1024 .f32) (x11 : Vec Ideal S16x1024 .bf16) (x12 : Vec Ideal S16x1 .f32) :
    out0_14 x0 x1 x2 x3 x4 x5 x6 x7 x8 x9 x10 x11 x12
      = k0_pay4 (k0_pay1 x1 x4 x2 x5 x3 x6 x0 x7) (k0_pay2 x8) (k0_pay3 x9) x10 := by
  unfold_out out0_14
  frame_out

theorem final14 (c : Dev nD) : (dats m 0 c).arrAt 14 (cfgs 0).N = GH m c := by
  refine (dats m 0 c).arrAt_eq_of_covers 14 _ (by decide +kernel) fun t _ y => ?_
  blk_simp [idx t]
  rw [after0_14, out14_eq]
  idx_vars y
  have ht : t.val < 256 := t.isLt
  have e : ((View.whole main_v11_1).slice (win0_14.rect t)).emb (ix2 y0 y1) = ix2 ⟨256 * t.val + y0.val, by omega⟩ y1 := by
    blk_ext [idx t]
  rw [e]
  exact hid_blk m c t y0 y1 (by omega)

end Cert.OutprojIdeal.Final
-- ==== Proof.OutprojEquation.lean ====
/- The output projection's equation: the residual and its norm are the reference's. -/
module

public import proofs.«01_k».proof.Proof.OutprojValue

@[expose] public section

set_option maxRecDepth 16384

noncomputable section

open Idealize.ShloMosaic Idealize.ShloMosaic.TcCoe Idealize.SL.Sem

namespace Cert.OutprojEquation

open Cert.OutprojIdeal Cert.OutprojIdeal.Gen Cert.OutprojIdeal.Final Cert.OutprojPure Cert.OutprojReferenceIdeal.Read

variable (m : (ℓ : Loc nD τ sig) → Buf (Elt Ideal) ℓ) (c : Dev nD)

theorem eq_resid : (dats m 0 c).arrAt 13 (cfgs 0).N
    = val_main_v29 (F := Ideal) (aX m c) (aYA m c) (aYB m c) (aYC m c) (aGA m c) (aW m c) := by
  rw [final13]
  funext i
  idx_vars i
  exact (ref_resid _ _ _ _ _ _ i0 i1).symm

theorem eq_hid : (dats m 0 c).arrAt 14 (cfgs 0).N
    = val_main_v30 (F := Ideal) (aX m c) (aYA m c) (aYB m c) (aYC m c) (aGA m c) (aSC m c) (aSH m c) (aNW m c) (aW m c) := by
  rw [final14]
  funext i
  idx_vars i
  exact (ref_hid2 _ _ _ _ _ _ _ _ _ i0 i1).symm

end Cert.OutprojEquation
-- ==== Proof.GmlpPure.lean ====
/- The gated spatial unit as mathematics: the activation, one group's layer norm, the causal mix over a chunk of 64 rows; and
   what the kernel's payloads read at an index. -/
module

public import proofs.«01_k».proof.Proof.Gen.GmlpIdeal.Skeleton
public import Idealize.ShloMosaic.Lib.Pointwise

@[expose] public section

set_option maxRecDepth 16384

noncomputable section

open Idealize.ShloMosaic Idealize.ShloMosaic.TcCoe Idealize.SL.Sem

namespace Cert.GmlpPure

/-- The activation, in its hyperbolic tangent form. -/
def gelu (x : EReal) : EReal :=
  Ideal.ofBits .f32 0x3F000000#32 * x * (1 + Ideal.tanh (Ideal.ofBits .f32 0x3F4C422A#32 * (x + Ideal.ofBits .f32 0x3D372713#32 * (x * x * x))))

/-- A group's row less its mean. -/
def centred (v : Fin 64 → EReal) (c : Fin 64) : EReal := v c - Ideal.div (∑ l : Fin 64, v l) (Ideal.ofBits .f32 0x42800000#32)

/-- A group's layer norm: the centred row over the root of its mean square, times the weight, plus the offset. -/
def unit (v g b : Fin 64 → EReal) (c : Fin 64) : EReal :=
  centred v c * Ideal.rsqrt (Ideal.div (∑ l : Fin 64, centred v l * centred v l) (Ideal.ofBits .f32 0x42800000#32) + Ideal.ofBits .f32 0x358637BD#32)
    * g c + b c

/-- Row `i` of the causal mix of a chunk's 64 rows, plus the row's bias. -/
def mix (w : Fin 64 → EReal) (b : EReal) (i : Fin 64) (vn : Fin 64 → EReal) : EReal :=
  (∑ k : Fin 64, if k ≤ i then w k * vn k else 0) + b

/-- Channel `c` of group `g`, and row `p` of chunk `b`. -/
abbrev chan (g : Fin 4) (c : Fin 64) : Fin 256 := ⟨g.val * 64 + c.val, by omega⟩
abbrev row (b : Fin 16) (p : Fin 64) : Fin 1024 := ⟨b.val * 64 + p.val, by omega⟩

/-- The normed entry of a row's group. -/
def vnOf (V : FVec Ideal ⟨2, ![1024, 256]⟩ .f32) (LG LB : FVec Ideal ⟨1, ![256]⟩ .f32) (r : Fin 1024) (g : Fin 4) (c : Fin 64) : EReal :=
  unit (fun l => gelu (V (ix2 r (chan g l)))) (fun l => LG (ix1 (chan g l))) (fun l => LB (ix1 (chan g l))) c

/-- The gated entry: the activation times the causal mix of the chunk's normed entries. -/
def outOf (U V : FVec Ideal ⟨2, ![1024, 256]⟩ .f32) (LG LB : FVec Ideal ⟨1, ![256]⟩ .f32) (WS : FVec Ideal ⟨3, ![4, 128, 128]⟩ .f32)
    (BS : FVec Ideal ⟨2, ![4, 128]⟩ .f32) (b : Fin 16) (p : Fin 64) (g : Fin 4) (c : Fin 64) : EReal :=
  gelu (U (ix2 (row b p) (chan g c)))
    * mix (fun k => WS (ix3 g ⟨p.val, by omega⟩ ⟨k.val, by omega⟩)) (BS (ix2 g ⟨p.val, by omega⟩)) p (fun k => vnOf V LG LB (row b k) g c)

/-- The group and the place in it of a channel; the chunk and the place in it of a row. -/
abbrev grp (j : Fin 256) : Fin 4 := ⟨j.val / 64, by omega⟩
abbrev chn (j : Fin 256) : Fin 64 := ⟨j.val % 64, by omega⟩
abbrev chk (r : Fin 1024) : Fin 16 := ⟨r.val / 64, by omega⟩
abbrev pos (r : Fin 1024) : Fin 64 := ⟨r.val % 64, by omega⟩

theorem grp_chan (g : Fin 4) (c : Fin 64) : grp (chan g c) = g := Fin.ext (by show (g.val * 64 + c.val) / 64 = g.val; omega)
theorem chn_chan (g : Fin 4) (c : Fin 64) : chn (chan g c) = c := Fin.ext (by show (g.val * 64 + c.val) % 64 = c.val; omega)
theorem chk_row (b : Fin 16) (p : Fin 64) : chk (row b p) = b := Fin.ext (by show (b.val * 64 + p.val) / 64 = b.val; omega)
theorem pos_row (b : Fin 16) (p : Fin 64) : pos (row b p) = p := Fin.ext (by show (b.val * 64 + p.val) % 64 = p.val; omega)
theorem chan_grp (j : Fin 256) : chan (grp j) (chn j) = j := Fin.ext (by show j.val / 64 * 64 + j.val % 64 = j.val; omega)
theorem row_chk (r : Fin 1024) : row (chk r) (pos r) = r := Fin.ext (by show r.val / 64 * 64 + r.val % 64 = r.val; omega)

section Kernel
open Cert.GmlpIdeal Cert.GmlpIdeal.Gen

theorem pay3_at (u : Vec Ideal S64x256 .f32) (p : Fin 64) (j : Fin 256) : k0_pay3 (F := Ideal) u (ix2 p j) = gelu (u (ix2 p j)) := by
  unfold gelu
  pointwise [k0_pay3]

theorem pay4_at (v : Vec Ideal S64x256 .f32) (p : Fin 64) (j : Fin 256) : k0_pay4 (F := Ideal) v (ix2 p j) = gelu (v (ix2 p j)) := by
  unfold gelu
  pointwise [k0_pay4]

/-- The mask holds on and below the diagonal. -/
theorem mask_at (i k : Fin 64) : (k0_pay5 (ix2 i k) = 1#1) ↔ k ≤ i := by
  have h : ∀ i k : Fin 64, (IntOp.cmpi .sge (BitVec.ofNat 32 i.val) (BitVec.ofNat 32 k.val) = 1#1) ↔ k ≤ i := by decide +kernel
  pointwise [k0_pay5]
  exact h i k

/-- A choice by the mask is a choice by the order of the two rows. -/
theorem select_mask (i k : Fin 64) (a b : EReal) : Scalar.select (k0_pay5 (ix2 i k)) a b = if k ≤ i then a else b := by
  by_cases h : k ≤ i
  · rw [if_pos h]
    exact if_pos ((mask_at i k).2 h)
  · rw [if_neg h]
    exact if_neg fun e => h ((mask_at i k).1 e)

theorem vn0_at (v : Vec Ideal S64x256 .f32) (g b : Vec Ideal S1x64 .f32) (p c : Fin 64) :
    k0_pay8 (F := Ideal) (k0_pay6 v) (k0_pay7 v) g b (ix2 p c)
      = unit (fun l => k0_pay4 v (ix2 p ⟨l.val, by omega⟩)) (fun l => g (ix2 0 l)) (fun l => b (ix2 0 l)) c := by
  unfold unit centred
  pointwise [k0_pay8, k0_pay7, k0_pay6]

theorem vn1_at (v : FVec Ideal S64x256 .f32) (g b : Vec Ideal S1x64 .f32) (p c : Fin 64) :
    k0_pay12 (F := Ideal) (k0_pay10 v) (k0_pay11 v) (Scalar.ofBits .f32 0x42800000#32) g b (ix2 p c)
      = unit (fun l => v (ix2 p ⟨64 + l.val, by omega⟩)) (fun l => g (ix2 0 l)) (fun l => b (ix2 0 l)) c := by
  unfold unit centred
  pointwise [k0_pay12, k0_pay11, k0_pay10]

theorem vn2_at (v : FVec Ideal S64x256 .f32) (g b : Vec Ideal S1x64 .f32) (p c : Fin 64) :
    k0_pay16 (F := Ideal) (k0_pay14 v) (k0_pay15 v) g b (ix2 p c)
      = unit (fun l => v (ix2 p ⟨128 + l.val, by omega⟩)) (fun l => g (ix2 0 l)) (fun l => b (ix2 0 l)) c := by
  unfold unit centred
  pointwise [k0_pay16, k0_pay15, k0_pay14]

theorem vn3_at (v : FVec Ideal S64x256 .f32) (g b : Vec Ideal S1x64 .f32) (p c : Fin 64) :
    k0_pay1 (F := Ideal) (k0_pay18 v) (k0_pay19 v) g b (ix2 p c)
      = unit (fun l => v (ix2 p ⟨192 + l.val, by omega⟩)) (fun l => g (ix2 0 l)) (fun l => b (ix2 0 l)) c := by
  unfold unit centred
  pointwise [k0_pay1, k0_pay19, k0_pay18]

/-- The four stores of the gated rows: the activation times the group's mix of the normed rows. -/
theorem out0_at (u : FVec Ideal S64x256 .f32) (d : FVec Ideal S64x64 .f32) (s : FVec Ideal S64x1 .f32) (g b : Vec Ideal S1x64 .f32)
    (w : Vec Ideal S1x64x64 .f32) (z : Vec Ideal S64x1 .f32) (p c : Fin 64) :
    k0_pay9 (F := Ideal) u k0_pay5 d s g b w z (ix2 p c)
      = u (ix2 p ⟨c.val, by omega⟩) * mix (fun k => w (ix3 0 p k)) (z (ix2 p 0)) p (fun k => k0_pay8 d s g b (ix2 k c)) := by
  unfold mix
  pointwise [k0_pay9]
  simp only [select_mask]

theorem out1_at (u : FVec Ideal S64x256 .f32) (d : FVec Ideal S64x64 .f32) (s : FVec Ideal S64x1 .f32) (e : EReal) (g b : Vec Ideal S1x64 .f32)
    (w : Vec Ideal S1x64x64 .f32) (z : Vec Ideal S64x1 .f32) (p c : Fin 64) :
    k0_pay13 (F := Ideal) u k0_pay5 d s e g b w z (ix2 p c)
      = u (ix2 p ⟨64 + c.val, by omega⟩) * mix (fun k => w (ix3 0 p k)) (z (ix2 p 0)) p (fun k => k0_pay12 d s e g b (ix2 k c)) := by
  unfold mix
  pointwise [k0_pay13]
  simp only [select_mask]

theorem out2_at (u : FVec Ideal S64x256 .f32) (d : FVec Ideal S64x64 .f32) (s : FVec Ideal S64 .f32) (g b : Vec Ideal S1x64 .f32)
    (w : Vec Ideal S1x64x64 .f32) (z : Vec Ideal S64x1 .f32) (p c : Fin 64) :
    k0_pay17 (F := Ideal) u k0_pay5 d s g b w z (ix2 p c)
      = u (ix2 p ⟨128 + c.val, by omega⟩) * mix (fun k => w (ix3 0 p k)) (z (ix2 p 0)) p (fun k => k0_pay16 d s g b (ix2 k c)) := by
  unfold mix
  pointwise [k0_pay17]
  simp only [select_mask]

theorem out3_at (u : FVec Ideal S64x256 .f32) (d s : FVec Ideal S64x64 .f32) (g b : Vec Ideal S1x64 .f32)
    (w : Vec Ideal S1x64x64 .f32) (z : Vec Ideal S64x1 .f32) (p c : Fin 64) :
    k0_pay2 (F := Ideal) u k0_pay5 d s g b w z (ix2 p c)
      = u (ix2 p ⟨192 + c.val, by omega⟩) * mix (fun k => w (ix3 0 p k)) (z (ix2 p 0)) p (fun k => k0_pay1 d s g b (ix2 k c)) := by
  unfold mix
  pointwise [k0_pay2]
  simp only [select_mask]

end Kernel

end Cert.GmlpPure
-- ==== Proof.GmlpBlock.lean ====
/- What the gated spatial unit's body leaves in its two output buffers, from the blocks it reads: the four groups' stores put
   together. -/
module

public import proofs.«01_k».proof.Proof.Gen.GmlpIdeal.Frame
public import proofs.«01_k».proof.Proof.GmlpPure
public import Idealize.ShloMosaic.Lib.Pipeline.ValueKit

@[expose] public section

set_option maxRecDepth 16384

noncomputable section

open Idealize.ShloMosaic Idealize.ShloMosaic.TcCoe Idealize.SL.Sem

namespace Cert.GmlpIdeal.Block

open Cert.GmlpIdeal Cert.GmlpIdeal.Gen Cert.GmlpPure

variable (x0 x1 : Vec Ideal S64x256 .f32) (x2 x3 : Vec Ideal S1x256 .f32) (x4 : Vec Ideal S4x64x64 .f32) (x5 : Vec Ideal S64x4 .f32)

/-- A block's normed entry. -/
def nrm (p : Fin 64) (g : Fin 4) (c : Fin 64) : EReal :=
  unit (fun l => gelu (x1 (ix2 p (chan g l)))) (fun l => x2 (ix2 0 (chan g l))) (fun l => x3 (ix2 0 (chan g l))) c

/-- A block's gated entry. -/
def gat (p : Fin 64) (g : Fin 4) (c : Fin 64) : EReal :=
  gelu (x0 (ix2 p (chan g c))) * mix (fun k => x4 (ix3 g p k)) (x5 (ix2 p g)) p (fun k => nrm x1 x2 x3 k g c)

/-- The two buffers, whole. -/
def normBuf : Vec Ideal S64x256 .f32 := fun y => nrm x1 x2 x3 (y 0) (grp (y 1)) (chn (y 1))
def gateBuf : Vec Ideal S64x256 .f32 := fun y => gat x0 x1 x2 x3 x4 x5 (y 0) (grp (y 1)) (chn (y 1))

theorem normBuf_at (p : Fin 64) (g : Fin 4) (c : Fin 64) : normBuf x1 x2 x3 (ix2 p (chan g c)) = nrm x1 x2 x3 p g c := by
  show nrm x1 x2 x3 p (grp (chan g c)) (chn (chan g c)) = _
  rw [grp_chan, chn_chan]

theorem gateBuf_at (p : Fin 64) (g : Fin 4) (c : Fin 64) :
    gateBuf x0 x1 x2 x3 x4 x5 (ix2 p (chan g c)) = gat x0 x1 x2 x3 x4 x5 p g c := by
  show gat x0 x1 x2 x3 x4 x5 p (grp (chan g c)) (chn (chan g c)) = _
  rw [grp_chan, chn_chan]

theorem chan_zero (l : Fin 64) {h : l.val < 256} : (⟨l.val, h⟩ : Fin 256) = chan 0 l := Fin.ext (by show l.val = 0 * 64 + l.val; omega)

/-- What the body loads: the whole activations, and one group's slices of the weights. -/
theorem ld_all (x : Vec Ideal S64x256 .f32) : View.ld x r0_0 = x := View.ld_unit_lit _ x (by decide)

theorem ld_row0 (x : Vec Ideal S1x256 .f32) (l : Fin 64) : View.ld x r0_1 (ix2 0 l) = x (ix2 0 (chan 0 l)) := by
  rw [← chan_zero (h := by omega)]; pointwise
theorem ld_row1 (x : Vec Ideal S1x256 .f32) (l : Fin 64) : View.ld x r0_5 (ix2 0 l) = x (ix2 0 (chan 1 l)) := by
  pointwise; rfl
theorem ld_row2 (x : Vec Ideal S1x256 .f32) (l : Fin 64) : View.ld x r0_9 (ix2 0 l) = x (ix2 0 (chan 2 l)) := by
  pointwise; rfl
theorem ld_row3 (x : Vec Ideal S1x256 .f32) (l : Fin 64) : View.ld x r0_13 (ix2 0 l) = x (ix2 0 (chan 3 l)) := by
  pointwise; rfl
theorem ld_w0 (p k : Fin 64) : View.ld x4 r0_3 (ix3 0 p k) = x4 (ix3 0 p k) := by pointwise
theorem ld_w1 (p k : Fin 64) : View.ld x4 r0_7 (ix3 0 p k) = x4 (ix3 1 p k) := by pointwise
theorem ld_w2 (p k : Fin 64) : View.ld x4 r0_11 (ix3 0 p k) = x4 (ix3 2 p k) := by pointwise
theorem ld_w3 (p k : Fin 64) : View.ld x4 r0_15 (ix3 0 p k) = x4 (ix3 3 p k) := by pointwise
theorem ld_b0 (p : Fin 64) : View.ld x5 r0_4 (ix2 p 0) = x5 (ix2 p 0) := by pointwise
theorem ld_b1 (p : Fin 64) : View.ld x5 r0_8 (ix2 p 0) = x5 (ix2 p 1) := by pointwise
theorem ld_b2 (p : Fin 64) : View.ld x5 r0_12 (ix2 p 0) = x5 (ix2 p 2) := by pointwise
theorem ld_b3 (p : Fin 64) : View.ld x5 r0_16 (ix2 p 0) = x5 (ix2 p 3) := by pointwise

/-- Each group's store lands on the group's channels. -/
theorem emb0 (p c : Fin 64) : r0_2.emb (ix2 p c) = ix2 p (chan 0 c) := by blk_ext []
theorem emb1 (p c : Fin 64) : r0_6.emb (ix2 p c) = ix2 p (chan 1 c) := by blk_ext []
theorem emb2 (p c : Fin 64) : r0_10.emb (ix2 p c) = ix2 p (chan 2 c) := by blk_ext []
theorem emb3 (p c : Fin 64) : r0_14.emb (ix2 p c) = ix2 p (chan 3 c) := by blk_ext []

/-- Each group's normed store. -/
theorem norm0 (p c : Fin 64) :
    k0_pay8 (F := Ideal) (k0_pay6 x1) (k0_pay7 x1) (View.ld x2 r0_1) (View.ld x3 r0_1) (ix2 p c) = nrm x1 x2 x3 p 0 c := by
  rw [vn0_at]
  simp only [pay4_at, chan_zero]
  exact congrArg₂ (fun u w => unit (fun l => gelu (x1 (ix2 p (chan 0 l)))) u w c) (funext fun l => ld_row0 x2 l) (funext fun l => ld_row0 x3 l)

theorem norm1 (p c : Fin 64) :
    k0_pay12 (F := Ideal) (k0_pay10 (k0_pay4 x1)) (k0_pay11 (k0_pay4 x1)) (Scalar.ofBits .f32 0x42800000#32) (View.ld x2 r0_5) (View.ld x3 r0_5)
      (ix2 p c) = nrm x1 x2 x3 p 1 c := by
  rw [vn1_at]
  simp only [pay4_at]
  exact congrArg₂ (fun u w => unit (fun l => gelu (x1 (ix2 p (chan 1 l)))) u w c) (funext fun l => ld_row1 x2 l) (funext fun l => ld_row1 x3 l)

theorem norm2 (p c : Fin 64) :
    k0_pay16 (F := Ideal) (k0_pay14 (k0_pay4 x1)) (k0_pay15 (k0_pay4 x1)) (View.ld x2 r0_9) (View.ld x3 r0_9) (ix2 p c) = nrm x1 x2 x3 p 2 c := by
  rw [vn2_at]
  simp only [pay4_at]
  exact congrArg₂ (fun u w => unit (fun l => gelu (x1 (ix2 p (chan 2 l)))) u w c) (funext fun l => ld_row2 x2 l) (funext fun l => ld_row2 x3 l)

theorem norm3 (p c : Fin 64) :
    k0_pay1 (F := Ideal) (k0_pay18 (k0_pay4 x1)) (k0_pay19 (k0_pay4 x1)) (View.ld x2 r0_13) (View.ld x3 r0_13) (ix2 p c) = nrm x1 x2 x3 p 3 c := by
  rw [vn3_at]
  simp only [pay4_at]
  exact congrArg₂ (fun u w => unit (fun l => gelu (x1 (ix2 p (chan 3 l)))) u w c) (funext fun l => ld_row3 x2 l) (funext fun l => ld_row3 x3 l)

/-- Each group's gated store. -/
theorem gate0 (p c : Fin 64) :
    k0_pay9 (F := Ideal) (k0_pay3 x0) k0_pay5 (k0_pay6 x1) (k0_pay7 x1) (View.ld x2 r0_1) (View.ld x3 r0_1) (View.ld x4 r0_3) (View.ld x5 r0_4)
      (ix2 p c) = gat x0 x1 x2 x3 x4 x5 p 0 c := by
  rw [out0_at]
  simp only [pay3_at, norm0, chan_zero]
  exact congrArg₂ (fun w b => gelu (x0 (ix2 p (chan 0 c))) * mix w b p fun k => nrm x1 x2 x3 k 0 c) (funext fun k => ld_w0 x4 p k) (ld_b0 x5 p)

theorem gate1 (p c : Fin 64) :
    k0_pay13 (F := Ideal) (k0_pay3 x0) k0_pay5 (k0_pay10 (k0_pay4 x1)) (k0_pay11 (k0_pay4 x1)) (Scalar.ofBits .f32 0x42800000#32)
      (View.ld x2 r0_5) (View.ld x3 r0_5) (View.ld x4 r0_7) (View.ld x5 r0_8) (ix2 p c) = gat x0 x1 x2 x3 x4 x5 p 1 c := by
  refine (out1_at _ _ _ _ _ _ _ _ p c).trans ?_
  simp only [pay3_at, norm1]
  exact congrArg₂ (fun w b => gelu (x0 (ix2 p (chan 1 c))) * mix w b p fun k => nrm x1 x2 x3 k 1 c) (funext fun k => ld_w1 x4 p k) (ld_b1 x5 p)

theorem gate2 (p c : Fin 64) :
    k0_pay17 (F := Ideal) (k0_pay3 x0) k0_pay5 (k0_pay14 (k0_pay4 x1)) (k0_pay15 (k0_pay4 x1)) (View.ld x2 r0_9) (View.ld x3 r0_9)
      (View.ld x4 r0_11) (View.ld x5 r0_12) (ix2 p c) = gat x0 x1 x2 x3 x4 x5 p 2 c := by
  rw [out2_at]
  simp only [pay3_at, norm2]
  exact congrArg₂ (fun w b => gelu (x0 (ix2 p (chan 2 c))) * mix w b p fun k => nrm x1 x2 x3 k 2 c) (funext fun k => ld_w2 x4 p k) (ld_b2 x5 p)

theorem gate3 (p c : Fin 64) :
    k0_pay2 (F := Ideal) (k0_pay3 x0) k0_pay5 (k0_pay18 (k0_pay4 x1)) (k0_pay19 (k0_pay4 x1)) (View.ld x2 r0_13) (View.ld x3 r0_13)
      (View.ld x4 r0_15) (View.ld x5 r0_16) (ix2 p c) = gat x0 x1 x2 x3 x4 x5 p 3 c := by
  rw [out3_at]
  simp only [pay3_at, norm3]
  exact congrArg₂ (fun w b => gelu (x0 (ix2 p (chan 3 c))) * mix w b p fun k => nrm x1 x2 x3 k 3 c) (funext fun k => ld_w3 x4 p k) (ld_b3 x5 p)

/-- The normed buffer after the body. -/
theorem out7_eq : out0_7 x0 x1 x2 x3 x4 x5 = normBuf x1 x2 x3 := by
  funext y
  unfold_out out0_7
  refine View.canon_apply_of_pieces (normBuf x1 x2 x3) _ ?_ y (cover0_7 _ _ _ _ y)
  intro q hq z
  simp only [List.mem_cons, List.not_mem_nil, or_false] at hq
  rcases hq with rfl | rfl | rfl | rfl <;> idx_vars z <;> simp only [ld_all]
  · rw [emb3, normBuf_at]; exact norm3 x1 x2 x3 _ _
  · rw [emb2, normBuf_at]; exact norm2 x1 x2 x3 _ _
  · rw [emb1, normBuf_at]; exact norm1 x1 x2 x3 _ _
  · rw [emb0, normBuf_at]; exact norm0 x1 x2 x3 _ _

/-- The gated buffer after the body. -/
theorem out6_eq : out0_6 x0 x1 x2 x3 x4 x5 = gateBuf x0 x1 x2 x3 x4 x5 := by
  funext y
  unfold_out out0_6
  refine View.canon_apply_of_pieces (gateBuf x0 x1 x2 x3 x4 x5) _ ?_ y (cover0_6 _ _ _ _ y)
  intro q hq z
  simp only [List.mem_cons, List.not_mem_nil, or_false] at hq
  rcases hq with rfl | rfl | rfl | rfl <;> idx_vars z <;> simp only [ld_all]
  · rw [emb3, gateBuf_at]; exact gate3 x0 x1 x2 x3 x4 x5 _ _
  · rw [emb2, gateBuf_at]; exact gate2 x0 x1 x2 x3 x4 x5 _ _
  · rw [emb1, gateBuf_at]; exact gate1 x0 x1 x2 x3 x4 x5 _ _
  · rw [emb0, gateBuf_at]; exact gate0 x0 x1 x2 x3 x4 x5 _ _

end Cert.GmlpIdeal.Block
-- ==== Proof.GmlpRef.lean ====
/- What the gated spatial unit's reference holds at an index. -/
module

public import proofs.«01_k».proof.Proof.Gen.GmlpReferenceIdeal.Read
public import proofs.«01_k».proof.Proof.GmlpPure

@[expose] public section

set_option maxRecDepth 16384

noncomputable section

open Idealize.ShloMosaic Idealize.ShloMosaic.TcCoe Idealize.SL.Sem

namespace Cert.GmlpReferenceIdeal.Results

open Cert.GmlpReferenceIdeal Cert.GmlpReferenceIdeal.Gen Cert.GmlpReferenceIdeal.Read Cert.GmlpPure

variable (U V : FVec Ideal S1024x256 .f32) (LG LB : FVec Ideal S256 .f32) (WS : FVec Ideal S4x128x128 .f32) (BS : FVec Ideal S4x128 .f32)

theorem ref_u (b : Fin 16) (p : Fin 64) (j : Fin 256) : val_main_v13 (F := Ideal) U (ix3 b p j) = gelu (U (ix2 (row b p) j)) := by
  unfold gelu row
  pointwise [val_main_v13, val_main_v12, val_main_v11, val_main_cst_2, val_main_v10, val_main_v9, val_main_cst_1, val_main_v8, val_main_v7,
    val_main_v6, val_main_cst_0, val_main_v5, val_main_v4, val_main_v3, val_main_cst, val_main_v2, val_main_v1, val_main_v0]
  rw [mul_comm (Ideal.ofBits _ _) (U _), mul_assoc, mul_assoc]

theorem ref_v (b : Fin 16) (p : Fin 64) (j : Fin 256) : val_main_v27 (F := Ideal) V (ix3 b p j) = gelu (V (ix2 (row b p) j)) := by
  unfold gelu row
  pointwise [val_main_v27, val_main_v26, val_main_v25, val_main_cst_6, val_main_v24, val_main_v23, val_main_cst_5, val_main_v22, val_main_v21,
    val_main_v20, val_main_cst_4, val_main_v19, val_main_v18, val_main_v17, val_main_cst_3, val_main_v16, val_main_v15, val_main_v14]
  rw [mul_comm (Ideal.ofBits _ _) (V _), mul_assoc, mul_assoc]

/-- The activations, a group at a time. -/
theorem ref_vg (b : Fin 16) (p : Fin 64) (g : Fin 4) (l : Fin 64) :
    val_main_v28 (F := Ideal) V (ix4 b p g l) = gelu (V (ix2 (row b p) (chan g l))) := by
  rw [← ref_v]
  pointwise [val_main_v28]

theorem ref_vn (b : Fin 16) (p : Fin 64) (g : Fin 4) (c : Fin 64) :
    val_main_v54 (F := Ideal) V LG LB (ix4 b p g c) = vnOf V LG LB (row b p) g c := by
  unfold vnOf unit centred
  simp only [← ref_vg]
  pointwise [val_main_v54, val_main_v53, val_main_v52, val_main_v51, val_main_v50, val_main_v49, val_main_v48, val_main_v47, val_main_v46,
    val_main_v45, val_main_v44, val_main_v43, val_main_v42, val_main_cst_11, val_main_v41, val_main_v40, val_main_v39, val_main_v38,
    val_main_cst_10, val_main_v37, val_main_v36, val_main_cst_9, val_main_v35, val_main_v34, val_main_v33, val_main_v32, val_main_v31,
    val_main_cst_8, val_main_v30, val_main_v29, val_main_cst_7]

/-- The causal weights. -/
theorem ref_ws (g : Fin 4) (i k : Fin 64) :
    val_main_v58 (F := Ideal) WS (ix3 g i k) = if k ≤ i then WS (ix3 g ⟨i.val, by omega⟩ ⟨k.val, by omega⟩) else (0 : EReal) := by
  pointwise [val_main_v58, val_main_call1_v2, val_main_call1_v1, val_main_call1_v0, val_main_cst_12, val_main_v57, val_main_v56,
    val_main_call0_v5, val_main_call0_c_0, val_main_call0_v4, val_main_call0_v3, val_main_call0_v2, val_main_call0_v1, val_main_call0_c,
    val_main_call0_v0, val_main_v55, val_main_c]
  have h : ∀ i k : Fin 64, (Scalar.select (IntOp.cmpi .sge (IntOp.addi (BitVec.ofNat 32 i.val) 0#32) (BitVec.ofNat 32 k.val)) 1#1 0#1 = 1#1) ↔ k ≤ i := by
    decide +kernel
  have hz : (constant S_ .f32 0#32 : FVec Ideal S_ .f32) ix0 = (0 : EReal) := by pointwise
  by_cases hk : k ≤ i
  · rw [if_pos hk]
    exact if_pos ((h i k).2 hk)
  · rw [if_neg hk]
    exact (if_neg fun e => hk ((h i k).1 e)).trans hz

/-- The mix. -/
theorem ref_mix (b : Fin 16) (p : Fin 64) (g : Fin 4) (c : Fin 64) :
    val_main_v61 (F := Ideal) V LG LB WS (ix5 b 0 p g c)
      = ∑ k : Fin 64, val_main_v58 (F := Ideal) WS (ix3 g p k) * val_main_v54 (F := Ideal) V LG LB (ix4 b k g c) := by
  pointwise [val_main_v61, val_main_v60, val_main_v59]
  exact Finset.sum_congr rfl fun k _ => mul_comm _ _

theorem ref_mixed (b : Fin 16) (p : Fin 64) (g : Fin 4) (c : Fin 64) :
    val_main_v66 (F := Ideal) V LG LB WS BS (ix5 b 0 p g c)
      = mix (fun k => WS (ix3 g ⟨p.val, by omega⟩ ⟨k.val, by omega⟩)) (BS (ix2 g ⟨p.val, by omega⟩)) p (fun k => vnOf V LG LB (row b k) g c) := by
  unfold mix
  have e : (∑ k : Fin 64, if k ≤ p then WS (ix3 g ⟨p.val, by omega⟩ ⟨k.val, by omega⟩) * vnOf V LG LB (row b k) g c else 0)
      = val_main_v61 (F := Ideal) V LG LB WS (ix5 b 0 p g c) := by
    rw [ref_mix]
    refine Finset.sum_congr rfl fun k _ => ?_
    rw [ref_ws, ref_vn, ite_mul, zero_mul]
  rw [e]
  pointwise [val_main_v66, val_main_v65, val_main_v64, val_main_v63, val_main_v62]

/-- The reference's two results. -/
theorem ref_out (b : Fin 16) (p : Fin 64) (g : Fin 4) (c : Fin 64) :
    val_main_v69 (F := Ideal) U V LG LB WS BS (ix2 (row b p) (chan g c)) = outOf U V LG LB WS BS b p g c := by
  unfold outOf
  rw [← ref_mixed, ← ref_u]
  pointwise [val_main_v69, val_main_v68, val_main_v67]
  have h1 : (⟨(b.val * 64 + p.val) / 64, by omega⟩ : Fin 16) = b := Fin.ext (by show (b.val * 64 + p.val) / 64 = b.val; omega)
  have h2 : (⟨(b.val * 64 + p.val) % 64, by omega⟩ : Fin 64) = p := Fin.ext (by show (b.val * 64 + p.val) % 64 = p.val; omega)
  have h3 : (⟨(g.val * 64 + c.val) / 64, by omega⟩ : Fin 4) = g := Fin.ext (by show (g.val * 64 + c.val) / 64 = g.val; omega)
  have h4 : (⟨(g.val * 64 + c.val) % 64, by omega⟩ : Fin 64) = c := Fin.ext (by show (g.val * 64 + c.val) % 64 = c.val; omega)
  rw [h1, h2, h3, h4]

theorem ref_norm (b : Fin 16) (p : Fin 64) (g : Fin 4) (c : Fin 64) :
    val_main_v70 (F := Ideal) V LG LB (ix2 (row b p) (chan g c)) = vnOf V LG LB (row b p) g c := by
  rw [← ref_vn]
  pointwise [val_main_v70]
  have h1 : (⟨(b.val * 64 + p.val) / 64, by omega⟩ : Fin 16) = b := Fin.ext (by show (b.val * 64 + p.val) / 64 = b.val; omega)
  have h2 : (⟨(b.val * 64 + p.val) % 64, by omega⟩ : Fin 64) = p := Fin.ext (by show (b.val * 64 + p.val) % 64 = p.val; omega)
  have h3 : (⟨(g.val * 64 + c.val) / 64, by omega⟩ : Fin 4) = g := Fin.ext (by show (g.val * 64 + c.val) / 64 = g.val; omega)
  have h4 : (⟨(g.val * 64 + c.val) % 64, by omega⟩ : Fin 64) = c := Fin.ext (by show (g.val * 64 + c.val) % 64 = c.val; omega)
  rw [h1, h2, h3, h4]

end Cert.GmlpReferenceIdeal.Results
-- ==== Proof.GmlpValue.lean ====
/- The gated spatial unit's two results after the sixteen grid points, and their equation with the reference. -/
module

public import proofs.«01_k».proof.Proof.Gen.GmlpIdeal.Value
public import proofs.«01_k».proof.Proof.GmlpBlock
public import proofs.«01_k».proof.Proof.GmlpRef

@[expose] public section

set_option maxRecDepth 16384

noncomputable section

open Idealize.ShloMosaic Idealize.ShloMosaic.TcCoe Idealize.SL.Sem

namespace Cert.GmlpIdeal.Final

open Cert.GmlpIdeal Cert.GmlpIdeal.Gen Cert.GmlpIdeal.Block Cert.GmlpPure

variable (m : (ℓ : Loc nD τ sig) → Buf (Elt Ideal) ℓ)

/-- The block indices: the chunk's rows for the activations and the results, the whole array for the weights. -/
theorem idx (t : Fin cfg0.N) : win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0]) t

/-- The arguments. -/
abbrev aU (c : Dev nD) : FVec Ideal S1024x256 .f32 := m (c, Proc.tc.devRef main_arg0)
abbrev aV (c : Dev nD) : FVec Ideal S1024x256 .f32 := m (c, Proc.tc.devRef main_arg1)
abbrev aLG (c : Dev nD) : FVec Ideal S256 .f32 := m (c, Proc.tc.devRef main_arg2)
abbrev aLB (c : Dev nD) : FVec Ideal S256 .f32 := m (c, Proc.tc.devRef main_arg3)
abbrev aWS (c : Dev nD) : FVec Ideal S4x128x128 .f32 := m (c, Proc.tc.devRef main_arg4)
abbrev aBS (c : Dev nD) : FVec Ideal S4x128 .f32 := m (c, Proc.tc.devRef main_arg5)

/-- The blocks at a grid point, from the arguments. -/
theorem blk_u (c : Dev nD) (t : Fin cfg0.N) (p : Fin 64) (k : Fin 256) (h : t.val < 16) :
    (iblk m c 0 t : FVec Ideal S64x256 .f32) (ix2 p k) = aU m c (ix2 (row ⟨t.val, h⟩ p) k) := by
  blk_point [iblk, idx t]

theorem blk_v (c : Dev nD) (t : Fin cfg0.N) (p : Fin 64) (k : Fin 256) (h : t.val < 16) :
    (iblk m c 1 t : FVec Ideal S64x256 .f32) (ix2 p k) = aV m c (ix2 (row ⟨t.val, h⟩ p) k) := by
  blk_point [iblk, idx t]

theorem blk_lg (c : Dev nD) (t : Fin cfg0.N) (k : Fin 256) :
    (iblk m c 2 t : FVec Ideal S1x256 .f32) (ix2 0 k) = aLG m c (ix1 k) := by
  blk_point [iblk, idx t]

theorem blk_lb (c : Dev nD) (t : Fin cfg0.N) (k : Fin 256) :
    (iblk m c 3 t : FVec Ideal S1x256 .f32) (ix2 0 k) = aLB m c (ix1 k) := by
  blk_point [iblk, idx t]

theorem blk_ws (c : Dev nD) (t : Fin cfg0.N) (g : Fin 4) (i k : Fin 64) :
    (iblk m c 4 t : FVec Ideal S4x64x64 .f32) (ix3 g i k) = aWS m c (ix3 g ⟨i.val, by omega⟩ ⟨k.val, by omega⟩) := by
  blk_point [iblk, idx t]

theorem blk_bs (c : Dev nD) (t : Fin cfg0.N) (p : Fin 64) (g : Fin 4) :
    (iblk m c 5 t : FVec Ideal S64x4 .f32) (ix2 p g) = aBS m c (ix2 g ⟨p.val, by omega⟩) := by
  blk_point [iblk, idx t]

/-- The normed entries of the block at grid point `t` are the chunk's. -/
theorem nrm_blk (c : Dev nD) (t : Fin cfg0.N) (p : Fin 64) (g : Fin 4) (l : Fin 64) (h : t.val < 16) :
    nrm (iblk m c 1 t) (iblk m c 2 t) (iblk m c 3 t) p g l = vnOf (aV m c) (aLG m c) (aLB m c) (row ⟨t.val, h⟩ p) g l := by
  unfold nrm vnOf
  simp only [blk_v m c t p _ h, blk_lg, blk_lb]

theorem gat_blk (c : Dev nD) (t : Fin cfg0.N) (p : Fin 64) (g : Fin 4) (l : Fin 64) (h : t.val < 16) :
    gat (iblk m c 0 t) (iblk m c 1 t) (iblk m c 2 t) (iblk m c 3 t) (iblk m c 4 t) (iblk m c 5 t) p g l
      = outOf (aU m c) (aV m c) (aLG m c) (aLB m c) (aWS m c) (aBS m c) ⟨t.val, h⟩ p g l := by
  unfold gat outOf
  simp only [blk_u m c t p _ h, nrm_blk m c t _ _ _ h, blk_ws, blk_bs]

/-- The two results, whole. -/
def GV (c : Dev nD) : FVec Ideal S1024x256 .f32 := fun i => vnOf (aV m c) (aLG m c) (aLB m c) (i 0) (grp (i 1)) (chn (i 1))
def GY (c : Dev nD) : FVec Ideal S1024x256 .f32 := fun i =>
  outOf (aU m c) (aV m c) (aLG m c) (aLB m c) (aWS m c) (aBS m c) (chk (i 0)) (pos (i 0)) (grp (i 1)) (chn (i 1))

theorem final7 (c : Dev nD) : (dats m 0 c).arrAt 7 (cfgs 0).N = GV m c := by
  refine (dats m 0 c).arrAt_eq_of_covers 7 _ (by decide +kernel) fun t _ y => ?_
  blk_simp [idx t]
  rw [after0_7, out7_eq]
  idx_vars y
  have ht : t.val < 16 := t.isLt
  have e : ((View.whole main_v5_1).slice (win0_7.rect t)).emb (ix2 y0 y1) = ix2 (row ⟨t.val, ht⟩ y0) y1 := by
    blk_ext [idx t]
  rw [e]
  exact nrm_blk m c t y0 (grp y1) (chn y1) ht

theorem final6 (c : Dev nD) : (dats m 0 c).arrAt 6 (cfgs 0).N = GY m c := by
  refine (dats m 0 c).arrAt_eq_of_covers 6 _ (by decide +kernel) fun t _ y => ?_
  blk_simp [idx t]
  rw [after0_6, out6_eq]
  idx_vars y
  have ht : t.val < 16 := t.isLt
  have e : ((View.whole main_v5_0).slice (win0_6.rect t)).emb (ix2 y0 y1) = ix2 (row ⟨t.val, ht⟩ y0) y1 := by
    blk_ext [idx t]
  rw [e]
  show gat _ _ _ _ _ _ y0 (grp y1) (chn y1) = outOf _ _ _ _ _ _ (chk (row ⟨t.val, ht⟩ y0)) (pos (row ⟨t.val, ht⟩ y0)) (grp y1) (chn y1)
  rw [chk_row, pos_row]
  exact gat_blk m c t y0 (grp y1) (chn y1) ht

end Cert.GmlpIdeal.Final

namespace Cert.GmlpEquation

open Cert.GmlpIdeal Cert.GmlpIdeal.Gen Cert.GmlpIdeal.Final Cert.GmlpPure Cert.GmlpReferenceIdeal.Read Cert.GmlpReferenceIdeal.Results

variable (m : (ℓ : Loc nD τ sig) → Buf (Elt Ideal) ℓ) (c : Dev nD)

theorem eq_out : (dats m 0 c).arrAt 6 (cfgs 0).N
    = val_main_v69 (F := Ideal) (aU m c) (aV m c) (aLG m c) (aLB m c) (aWS m c) (aBS m c) := by
  rw [final6]
  funext i
  idx_vars i
  rw [← row_chk i0, ← chan_grp i1]
  refine Eq.trans ?_ (ref_out _ _ _ _ _ _ (chk i0) (pos i0) (grp i1) (chn i1)).symm
  rw [row_chk, chan_grp]
  rfl

theorem eq_norm : (dats m 0 c).arrAt 7 (cfgs 0).N = val_main_v70 (F := Ideal) (aV m c) (aLG m c) (aLB m c) := by
  rw [final7]
  funext i
  idx_vars i
  rw [← row_chk i0, ← chan_grp i1]
  refine Eq.trans ?_ (ref_norm _ _ _ (chk i0) (pos i0) (grp i1) (chn i1)).symm
  rw [row_chk, chan_grp]
  rfl

end Cert.GmlpEquation
-- ==== Proof.ExpertsLaunch.lean ====
/- The experts' launch: what the host lines before the call leave in the call's arrays, and the two tables
   (the expert of each block, the number of used blocks) as the region finds them. -/
module

public import proofs.«01_k».proof.Proof.Gen.ExpertsIdeal.Skeleton
public import proofs.«01_k».proof.Proof.Gen.ExpertsIdeal.Launch
public import Idealize.ShloMosaic.Lib.Pipeline.Frame
public import Idealize.ShloMosaic.Lib.Pipeline.FrameBody
public import Idealize.ShloMosaic.Lib.VecWindow
public import Idealize.ShloMosaic.Lib.Exec
public import Idealize.ShloMosaic.Lib.Tactic

@[expose] public section

set_option maxRecDepth 16384

noncomputable section

namespace Cert.ExpertsIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: after the host lines. -/
def V (c : Dev nD) (b : Ref sig .tc) : Buf (Elt F) ((c : Thread nD τ).loc b) := StableHlo.after hostOps0 (fun b => m (c, b)) b

/-- No host line before the region allocates. -/
theorem hostOps_fresh : (hostOps0 : List (HloOp τ sig (Elt F))).Forall fun op => op.fresh = ∅ := by
  simp only [List.Forall]; repeat' constructor

set_option maxHeartbeats 800000 in
/-- The program is its host lines, then the region, entered at `V`. -/
theorem main_entry (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps_fresh main_chain

/-- An array that is none of the host lines' results is found as it was launched. -/
theorem V_kept (c : Dev nD) (b : Ref sig .tc)
    (h : b ∉ ([main_v0, main_v1, main_c, main_v2, main_v3, main_v4, main_c_0, main_v5, main_v6, main_c_1, main_v7, main_v8, main_v9,
      main_v10, main_v11, main_v12, main_v13, main_v14] : List (Ref sig .tc))) :
    V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5, h6, h7, h8, h9, h10, h11, h12, h13, h14, h15, h16, h17⟩ := h
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by assumption)))

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables are admissible: every block they name lies inside its array. -/
abbrev Ok : Prop := ok0 (F := F) (tbl m)
abbrev adm (hO : Ok m) : (pcfg0 (F := F)).Adm := ⟨tbl m, hO⟩
/-- The call at those tables. -/
abbrev cfgM (hO : Ok m) : Pipeline.Cfg sig Λ₀ := cfg0 (adm m hO)

/-- The tables as the body is handed them. -/
abbrev blkM : Memref sig .tc .smem S528 .i32 := Memref.whole main_v11
abbrev usedM : Memref sig .tc .smem S1 .i32 := Memref.whole main_arg1

/-- A table's buffer held, read-only, at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c blkM (tbl m 0) ∗ tbPt c usedM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- How many blocks are used. -/
def used : BitVec 32 := (tbl m 1 : S1.Idx → BitVec 32) (fun _ => ⟨0, Nat.lt_of_lt_of_le Nat.zero_lt_one (by rename_i a; revert a; decide)⟩)

theorem used_eq : tbl m 1 = fun _ => used m := by
  funext j
  refine congrArg (tbl m 1 : S1.Idx → BitVec 32) (funext fun a => ?_)
  have h : ∀ (j : S1.Idx) (a : Fin S1.rank), (j a).val = 0 := fun j a => by
    have h0 := (j a).isLt
    have h1 : ∀ a : Fin S1.rank, S1.size a = 1 := by decide
    exact Nat.lt_one_iff.mp (h0.trans_eq (h1 a))
  exact Fin.ext (h j a)

attribute [local irreducible] V tbl

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's buffer at point `i` when `n` blocks are used: the experts' network of the
    blocks it was handed if the point is below `n`, zeros otherwise. -/
def out (i : grid0.Coords) (n : BitVec 32) (x : Vec F S256x1024 .f32) (wg wu : Vec F S1x1024x512 .bf16) (wd : Vec F S1x512x1024 .bf16) :
    Vec F S256x1024 .f32 :=
  if k0_cond1 i n = 1#1 then k0_pay1 x wg wu wd else k0_pay2

/-- The second condition is the first one negated. -/
theorem cond2_iff (i : grid0.Coords) (n : BitVec 32) : k0_cond2 i n = 1#1 ↔ ¬ k0_cond1 i n = 1#1 := by
  unfold k0_cond1 k0_cond2
  dsimp only
  generalize Scalar.cmpi .slt (BitVec.ofNat 32 (i 0).val) n = b
  revert b; decide

/-- The body on whole buffers: the inputs are kept, the output is left at `out`. -/
theorem body_run (c : Dev nD) (i : grid0.Coords) (arg3 : Memref sig .tc .vmem S256x1024 .f32) (harg3 : arg3.IsWhole)
    (arg4 : Memref sig .tc .vmem S1x1024x512 .bf16) (harg4 : arg4.IsWhole) (arg5 : Memref sig .tc .vmem S1x1024x512 .bf16) (harg5 : arg5.IsWhole)
    (arg6 : Memref sig .tc .vmem S1x512x1024 .bf16) (harg6 : arg6.IsWhole) (arg7 : Memref sig .tc .vmem S256x1024 .f32) (harg7 : arg7.IsWhole)
    (x : Vec F S256x1024 .f32) (wg wu : Vec F S1x1024x512 .bf16) (wd : Vec F S1x512x1024 .bf16) (tb : TbBuf (F := F) c blkM) (n : BitVec 32)
    (E : Set ℕ) (K : PUnit → sProp 𝕄) :
    iprop(owns (c : Thread nD τ) arg3 fullShare x ∗ owns (c : Thread nD τ) arg4 fullShare wg ∗ owns (c : Thread nD τ) arg5 fullShare wu
        ∗ owns (c : Thread nD τ) arg6 fullShare wd ∗ (∃ d, owns (c : Thread nD τ) arg7 fullShare d) ∗ tbPt c blkM tb ∗ tbPt c usedM (fun _ => n : S1.Idx → BitVec 32)
        ∗ (iprop(owns (c : Thread nD τ) arg3 fullShare x ∗ owns (c : Thread nD τ) arg4 fullShare wg ∗ owns (c : Thread nD τ) arg5 fullShare wu
            ∗ owns (c : Thread nD τ) arg6 fullShare wd ∗ owns (c : Thread nD τ) arg7 fullShare (out i n x wg wu wd)
            ∗ tbPt c blkM tb ∗ tbPt c usedM (fun _ => n : S1.Idx → BitVec 32)) -∗ K ⟨⟩))
      ⊢ wp frame (wpE (defs₀ (F := F)) Variants.none c none) E
          (cc0_moe_experts i blkM (Memref.isWhole_whole _) usedM (Memref.isWhole_whole _) arg3 harg3 arg4 harg4 arg5 harg5 arg6 harg6 arg7 harg7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  by_cases hc : k0_cond1 i n = 1#1
  · have hc2 : ¬ k0_cond2 i n = 1#1 := fun h => (cond2_iff i n).mp h hc
    rw [show out i n x wg wu wd = k0_pay1 x wg wu wd from if_pos hc]
    sl_exec (disch := first | sl_exact hc | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full, View.readAt_full, View.readAt_full, View.readAt_full, View.readAt_full, hf0, hf1, hf2, hf3]
    isplitl [HT0]; · iexact HT0
    iexact HT1
  · have hc2 : k0_cond2 i n = 1#1 := (cond2_iff i n).mpr hc
    rw [show out i n x wg wu wd = k0_pay2 from if_neg hc]
    sl_exec (disch := first | sl_exact hc | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full]
    isplitl [HT0]; · iexact HT0
    iexact HT1

/-- What the call's pipeline holds at each point: the inputs' buffers their blocks, the output's buffer the body's result. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => out (grid0.coords t) (used m) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

variable (hO : Ok m) (c : Dev nD)

theorem A_eq (c : Dev nD) (w : Fin (cfgM m hO).W) : (dats m hO 0 c).A w = V m c (Pipeline.arrRef spec0 w) := by dsimp only [dats]

theorem after_0 (t : Fin (cfgM m hO).N) : (dats m hO 0 c).after 0 t = iblk m hO c 0 t := by dsimp only [dats]; try rfl
theorem after_1 (t : Fin (cfgM m hO).N) : (dats m hO 0 c).after 1 t = iblk m hO c 1 t := by dsimp only [dats]; try rfl
theorem after_2 (t : Fin (cfgM m hO).N) : (dats m hO 0 c).after 2 t = iblk m hO c 2 t := by dsimp only [dats]; try rfl
theorem after_3 (t : Fin (cfgM m hO).N) : (dats m hO 0 c).after 3 t = iblk m hO c 3 t := by dsimp only [dats]; try rfl
theorem after_4 (t : Fin (cfgM m hO).N) : (dats m hO 0 c).after 4 t
    = out (grid0.coords t) (used m) (iblk m hO c 0 t) (iblk m hO c 1 t) (iblk m hO c 2 t) (iblk m hO c 3 t) := by dsimp only [dats]; try rfl

theorem before_0 (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-- The output is written back at every point. -/
theorem flush_4 (t : Fin (cfgM m hO).N) : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)
    : ∀ t : Fin grid0.N, Pipeline.Window.flushOf grid0 true cc0_transform_4 t = true) t

/-- The current buffers at point `t`. -/
abbrev st_0 (t : Fin (cfgM m hO).N) : Memref sig .tc .vmem S256x1024 .f32 := spec0_0.stage ((cfgM m hO).slots t 0)
abbrev st_1 (t : Fin (cfgM m hO).N) : Memref sig .tc .vmem S1x1024x512 .bf16 := spec0_1.stage ((cfgM m hO).slots t 1)
abbrev st_2 (t : Fin (cfgM m hO).N) : Memref sig .tc .vmem S1x1024x512 .bf16 := spec0_2.stage ((cfgM m hO).slots t 2)
abbrev st_3 (t : Fin (cfgM m hO).N) : Memref sig .tc .vmem S1x512x1024 .bf16 := spec0_3.stage ((cfgM m hO).slots t 3)
abbrev st_4 (t : Fin (cfgM m hO).N) : Memref sig .tc .vmem S256x1024 .f32 := spec0_4.stage ((cfgM m hO).slots t 4)

/-- The body as the pipeline calls it at point `t`. -/
abbrev bodyAt (t : Fin (cfgM m hO).N) : Prog (TpuEff nD τ sig (Elt F) Λ₀ .tc) PUnit :=
  cc0_moe_experts (grid0.coords t) blkM (Memref.isWhole_whole _) usedM (Memref.isWhole_whole _)
    (st_0 m hO t) (hstage0_0 (((cfgM m hO).slots t 0).cast nbuf0_0)) (st_1 m hO t) (hstage0_1 (((cfgM m hO).slots t 1).cast nbuf0_1))
    (st_2 m hO t) (hstage0_2 (((cfgM m hO).slots t 2).cast nbuf0_2)) (st_3 m hO t) (hstage0_3 (((cfgM m hO).slots t 3).cast nbuf0_3))
    (st_4 m hO t) (hstage0_4 (((cfgM m hO).slots t 4).cast nbuf0_4))

/-- What the body is handed at point `t`, and what it hands back. -/
def bodyPre (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d)))

def bodyPost (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

/-- One of the two conditions holds: the output is stored at every point. -/
theorem never_idle (i : grid0.Coords) (n : BitVec 32) : (!(k0_cond1 i n == 1#1) && !(k0_cond2 i n == 1#1)) = false := by
  by_cases h : k0_cond1 i n = 1#1
  · simp [h]
  · simp [(cond2_iff i n).mpr h]

theorem live_4 (t : Fin (cfgM m hO).N) : (cfgM m hO).idle 4 ((cfgM m hO).grid.coords t) = false :=
  never_idle (grid0.coords t) ((tbl m).atD 1 ![0])

/-- So every buffer is handed back at what the body is said to leave. -/
theorem leaves_0 (t : Fin (cfgM m hO).N) :
    (dats m hO 0 c).leavesExact 0 t = owns (c : Thread nD τ) (st_0 m hO t) fullShare ((dats m hO 0 c).after 0 t) := by
  rfl
theorem leaves_1 (t : Fin (cfgM m hO).N) :
    (dats m hO 0 c).leavesExact 1 t = owns (c : Thread nD τ) (st_1 m hO t) fullShare ((dats m hO 0 c).after 1 t) := by
  rfl
theorem leaves_2 (t : Fin (cfgM m hO).N) :
    (dats m hO 0 c).leavesExact 2 t = owns (c : Thread nD τ) (st_2 m hO t) fullShare ((dats m hO 0 c).after 2 t) := by
  rfl
theorem leaves_3 (t : Fin (cfgM m hO).N) :
    (dats m hO 0 c).leavesExact 3 t = owns (c : Thread nD τ) (st_3 m hO t) fullShare ((dats m hO 0 c).after 3 t) := by
  rfl
theorem leaves_4 (t : Fin (cfgM m hO).N) :
    (dats m hO 0 c).leavesExact 4 t = owns (c : Thread nD τ) (st_4 m hO t) fullShare ((dats m hO 0 c).after 4 t) := by
  unfold Dat.leavesExact; rw [live_4]; try rfl

/-- The body at point `t` takes the one to the other. -/
theorem body_sound (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    leaves_0, leaves_1, leaves_2, leaves_3, leaves_4, after_0, after_1, after_2, after_3, after_4]
  rw [show (dats m hO 0 c).Φ t.castSucc = iprop(Pipeline.ΦA spec0 c ∗ Pipeline.ΦT pre0 (tbl m) c) from rfl, tables_eq, used_eq]
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t) (tbl m 0) (used m) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_row (t : Fin (cfgM m hO).N) :
    defs₀ (F := F) .tc (cfgM m hO).body ((cfgM m hO).bodyArgs t ((cfgM m hO).slots t)) = bodyAt m hO t := by
  unfold defs₀; rw [Defs.onTc_tc]

/-- The pipeline's obligation, at every point. -/
theorem body_obligation : BodyObligation (dats (F := F) m hO 0 c) (defs₀ (F := F)) Variants.none () Set.univ := fun t => by
  rw [bigSep_W0, bigSep_W0, body_row m hO]
  exact triple_restated (body_sound m hO c t) rfl .rfl fun _ => .rfl

variable (ρ : Dev nD → PrngReg)

set_option backward.isDefEq.respectTransparency.types false in
/-- The program ends, its arrays as the pipeline's data say, the semaphore counters at zero. -/
theorem run_main : θ_run defs (onTc (τ := τ) (main (F := F))) (s₀ m ρ)
    (fun r => Pipeline.FramePost (Pipeline.pin pcfgs fun _ => adm m hO) (dats m hO) 0 (V m) r ∧ r.2.sem = (fun _ => 0)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_entry m Variants.none) (hA := A_eq m hO) (hpf := V_pre m)
    (hΦ := fun _ _ => rfl)
    (Q' := fun r => Pipeline.FramePost (Pipeline.pin pcfgs fun _ => adm m hO) (dats m hO) 0 (V m) r ∧ r.2.sem = (fun _ => 0)) (hQ' := fun _ h => h)

/-- What a run leaves: the result, the arguments, the counters. -/
theorem run_reads : θ_run defs (onTc (τ := τ) (main (F := F))) (s₀ m ρ) (fun r =>
    (∀ c : Dev nD, r.2.mem ((c.tc : Thread nD τ).loc main_v15) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = (fun _ => 0)) :=
  (θ_run defs _ _).mono (fun _ h => ⟨fun c => ⟨(h.1 c).1 4,
      ((h.1 c).2 main_arg0 (by decide : main_arg0 ∈ Pipeline.restRefs sig spec0)).trans (V_kept m c main_arg0 (by decide)),
      ((h.1 c).2 main_arg1 (by decide : main_arg1 ∈ Pipeline.restRefs sig spec0)).trans (V_kept m c main_arg1 (by decide)),
      ((h.1 c).1 0).trans (((dats m hO 0 c).arrAt_in 0 rfl _).trans ((A_eq m hO c 0).trans (V_kept m c main_arg2 (by decide)))),
      ((h.1 c).2 main_arg3 (by decide : main_arg3 ∈ Pipeline.restRefs sig spec0)).trans (V_kept m c main_arg3 (by decide)),
      ((h.1 c).2 main_arg4 (by decide : main_arg4 ∈ Pipeline.restRefs sig spec0)).trans (V_kept m c main_arg4 (by decide)),
      ((h.1 c).2 main_arg5 (by decide : main_arg5 ∈ Pipeline.restRefs sig spec0)).trans (V_kept m c main_arg5 (by decide))⟩, h.2⟩)
    (run_main m hO ρ)

end Cert.ExpertsIdeal.Launch

end
-- ==== Proof.ExpertsTables.lean ====
/- The experts' tables: entry `i` of the first is the expert of block `min i (n - 1)`, `n` being the second's only entry. -/
module

public import proofs.«01_k».proof.Proof.ExpertsLaunch
public import Idealize.ShloMosaic.Lib.StableHlo.RunRead
public import Idealize.ShloMosaic.Lib.StableHlo.Predicate
public import Idealize.ShloMosaic.Lib.Routing.OpsSet
public import Idealize.ShloMosaic.Lib.PlanTiles.Rows
public import Idealize.ShloMosaic.Lib.Pointwise

@[expose] public section

set_option maxRecDepth 16384

noncomputable section

namespace Cert.ExpertsIdeal.Launch

open Idealize.ShloMosaic Idealize.ShloMosaic.TcCoe Idealize.ShloMosaic.Tactic
open Idealize.SL.Sem
open Cert.ExpertsIdeal.Gen

variable {F : FTy → Type} [FloatOps F]
variable (m : (ℓ : Loc nD τ sig) → Buf (Elt F) ℓ)

/-- The two integer arguments. -/
abbrev experts : IVec S528 32 := m ((0 : Dev nD).tc.loc main_arg0)
abbrev count : IVec S1 32 := m ((0 : Dev nD).tc.loc main_arg1)

theorem used_count : used m = count m (ix1 0) := by
  have h : tbl m 1 = count m := V_kept m 0 main_arg1 (by decide)
  exact (congrFun (used_eq m) (ix1 0)).symm.trans (congrFun h (ix1 0))

/-- The index the host lines look the expert of block `i` up at, before and after the wrapping of a negative one. -/
def clipped (i : ℕ) : BitVec 32 := IntOp.minsi (BitVec.ofNat 32 i) (IntOp.subi (count m (ix1 0)) 1#32)
def looked (i : ℕ) : BitVec 32 :=
  Scalar.select (IntOp.cmpi .slt (clipped m i) 0#32) (IntOp.addi (clipped m i) 528#32) (clipped m i)

/-- The first table as the host lines compute it. -/
theorem tbl_zero : tbl m 0 = (Host.gather gather_S528_S528x1_S528_n_0_n_n_0_1_1 (experts m)
    (fun y => looked m (y 0).val) : IVec S528 32) := by
  unfold tbl V
  show StableHlo.after hostOps0 (fun b => m ((0 : Dev nD), b)) (Proc.devRef .tc main_v11) = _
  after_reads_simp
  refine congrArg (Host.gather gather_S528_S528x1_S528_n_0_n_n_0_1_1 (experts m)) (funext fun y => ?_)
  unfold looked clipped
  have hc : (fun i => shapeCast main_v1.ty.shape (m (0, Proc.tc.devRef main_arg1)) shapeCasts_S1_S_ i) = fun _ => count m (ix1 0) := by
    funext i
    refine congrArg (count m) (funext fun a => Fin.ext ?_)
    have h1 : ∀ (j : S1.Idx) (a : Fin S1.rank), (j a).val = 0 := fun j a => by
      have h1 : ∀ a : Fin S1.rank, S1.size a = 1 := by decide
      exact Nat.lt_one_iff.mp ((j a).isLt.trans_eq (h1 a))
    exact (h1 _ a).trans (h1 (ix1 0) a).symm
  rw [hc]
  pointwise

/-- What the launch asks of the tables: every expert is one of the sixteen, and at least one block is used. -/
structure InRange : Prop where
  expert (i : Fin 528) : (experts m (ix1 i)).toNat < 16
  pos : 1 ≤ (count m (ix1 0)).toNat
  small : (count m (ix1 0)).toNat < 2 ^ 31

/-- The block whose expert the table holds at entry `i`. -/
def source (h : InRange m) (i : Fin 528) : Fin 528 :=
  ⟨min ((count m (ix1 0)).toNat - 1) i.val, lt_of_le_of_lt (min_le_right _ _) i.isLt⟩

theorem clipped_eq (h : InRange m) (i : Fin 528) : clipped m i.val = BitVec.ofNat 32 (source m h i).val := by
  have h1 := h.pos
  have h2 := h.small
  have h3 : IntOp.subi (count m (ix1 0)) 1#32 = BitVec.ofNat 32 ((count m (ix1 0)).toNat - 1) := by
    apply BitVec.eq_of_toNat_eq
    simp only [IntOp.subi, BitVec.toNat_sub, BitVec.toNat_ofNat]
    omega
  unfold clipped source
  rw [h3]
  exact PlanTiles.minsi_word (by omega) (by omega)

theorem looked_eq (h : InRange m) (i : Fin 528) : looked m i.val = BitVec.ofNat 32 (source m h i).val := by
  have h1 := (source m h i).isLt
  unfold looked
  rw [clipped_eq m h i]
  have h4 : IntOp.cmpi .slt (BitVec.ofNat 32 (source m h i).val) 0#32 = 0#1 := by
    have : (BitVec.ofNat 32 (source m h i).val).slt 0#32 = false := by
      rw [BitVec.slt_eq_decide, StableHlo.Predicate.toInt_ofNat_small _ (by omega)]
      simp
    show BitVec.ofBool ((BitVec.ofNat 32 (source m h i).val).slt 0#32) = 0#1
    rw [this]; rfl
  rw [h4]
  rfl

/-- Entry `i` of the first table. -/
theorem tbl_zero_apply (h : InRange m) (i : Fin 528) : tbl m 0 (ix1 i) = experts m (ix1 (source m h i)) := by
  rw [tbl_zero]
  exact Routing.gather_take1 _ rfl rfl rfl rfl (experts m) _ i (source m h i) (looked_eq m h i) (by omega)

/-- The block a grid point stands for. -/
def blockOf (i : grid0.Coords) : Fin 528 := ⟨(i 0).val, (i 0).isLt⟩

attribute [local irreducible] V tbl

/-- The expert table read at grid point `i`. -/
theorem read_expert (h : InRange m) (i : grid0.Coords) (h1 : S1.numel = 1) :
    (tbl m).at 0 (Rect.unit (s := S528) ![(Scalar.indexCast (BitVec.ofNat 32 (i 0).val)).toNat] S1.size (k0_off1_inb i)) h1
      = experts m (ix1 (source m h (blockOf i))) := by
  refine (congrArg (tbl m 0) (funext fun a => Fin.ext ?_)).trans (tbl_zero_apply m h (blockOf i))
  have h0 : (i 0).val < 528 := (i 0).isLt
  obtain ⟨a, ha⟩ := a
  obtain rfl : a = 0 := Nat.lt_one_iff.mp ha
  have h2 : ∀ j : S1.Idx, (j 0).val = 0 := fun j => Nat.lt_one_iff.mp (j 0).isLt
  show (BitVec.ofNat 32 (i 0).val).toNat + 1 * (Shape.Idx.first (s := S1) (h1.symm ▸ Nat.one_pos) 0).val = (i 0).val
  rw [h2, BitVec.toNat_ofNat]
  omega

/-- The count read at any grid point. -/
theorem read_count (h1 : S1.numel = 1) :
    (tbl m).at 1 (Rect.unit (s := S1) ![0] S1.size inb_S1_S1_0) h1 = count m (ix1 0) :=
  (congrFun (used_eq m) _).trans (used_count m)

theorem transform_0_eq (h : InRange m) (i : grid0.Coords) :
    cc0_transform_0 inb_S1_S1_0 numel1_S1 (tbl m) i = ![(source m h (blockOf i)).val, 0] := by
  unfold cc0_transform_0
  dsimp only
  rw [read_count m]
  have e := clipped_eq m h (blockOf i)
  have h1 := (source m h (blockOf i)).isLt
  have e2 : (Scalar.minsi (BitVec.ofNat 32 (i 0).val) (Scalar.subi (count m (ix1 0)) 1#32)).toNat = (source m h (blockOf i)).val := by
    refine (congrArg BitVec.toNat e).trans ?_
    rw [BitVec.toNat_ofNat]; omega
  rw [e2]; rfl

theorem transform_1_eq (h : InRange m) (i : grid0.Coords) :
    cc0_transform_1 k0_off1_inb numel1_S1 (tbl m) i = ![(experts m (ix1 (source m h (blockOf i)))).toNat, 0, 0] := by
  unfold cc0_transform_1
  dsimp only
  rw [read_expert m h]; rfl

theorem transform_2_eq (h : InRange m) (i : grid0.Coords) :
    cc0_transform_2 k0_off1_inb numel1_S1 (tbl m) i = ![(experts m (ix1 (source m h (blockOf i)))).toNat, 0, 0] :=
  transform_1_eq m h i

theorem transform_3_eq (h : InRange m) (i : grid0.Coords) :
    cc0_transform_3 k0_off1_inb numel1_S1 (tbl m) i = ![(experts m (ix1 (source m h (blockOf i)))).toNat, 0, 0] :=
  transform_1_eq m h i

theorem rows_inside (b : ℕ) (hb : b < 528) : ∀ a, ((![b, 0] : Fin 2 → ℕ) a + 1) * S256x1024.size a ≤ S135168x1024.size a := by
  intro a
  match a with
  | 0 => show (b + 1) * 256 ≤ 135168; omega
  | 1 => show (0 + 1) * 1024 ≤ 1024; omega

theorem wide_inside (e : ℕ) (he : e < 16) : ∀ a, ((![e, 0, 0] : Fin 3 → ℕ) a + 1) * S1x1024x512.size a ≤ S16x1024x512.size a := by
  intro a
  match a with
  | 0 => show (e + 1) * 1 ≤ 16; omega
  | 1 => show (0 + 1) * 1024 ≤ 1024; omega
  | 2 => show (0 + 1) * 512 ≤ 512; omega

theorem tall_inside (e : ℕ) (he : e < 16) : ∀ a, ((![e, 0, 0] : Fin 3 → ℕ) a + 1) * S1x512x1024.size a ≤ S16x512x1024.size a := by
  intro a
  match a with
  | 0 => show (e + 1) * 1 ≤ 16; omega
  | 1 => show (0 + 1) * 512 ≤ 512; omega
  | 2 => show (0 + 1) * 1024 ≤ 1024; omega

/-- The tables are admissible. -/
theorem ok (h : InRange m) : Ok m := by
  have b (i : grid0.Coords) := (source m h (blockOf i)).isLt
  have e (i : grid0.Coords) := h.expert (source m h (blockOf i))
  refine ⟨fun i => ?_, fun i => ?_, fun i => ?_, fun i => ?_⟩
  · rw [transform_0_eq m h]
    exact ⟨rows_inside _ (b i), .inl rfl⟩
  · rw [transform_1_eq m h]
    exact ⟨wide_inside _ (e i), .inr (.inr ⟨by decide, rfl, rfl, rfl⟩)⟩
  · rw [transform_2_eq m h]
    exact ⟨wide_inside _ (e i), .inr (.inr ⟨by decide, rfl, rfl, rfl⟩)⟩
  · rw [transform_3_eq m h]
    exact ⟨tall_inside _ (e i), .inr (.inr ⟨by decide, rfl, rfl, rfl⟩)⟩

end Cert.ExpertsIdeal.Launch
-- ==== Proof.ExpertsRange.lean ====
/- The precondition `tables_in_range` read as what the launch asks of the two tables, and the frames of both programs. -/
module

public import proofs.«01_k».proof.Defs
public import proofs.«01_k».proof.Proof.Gen.Pre_tables_in_range
public import proofs.«01_k».proof.Proof.ExpertsTables
public import proofs.«01_k».proof.Proof.ExpertsBitsLaunch
public import Idealize.ShloMosaic.Adequacy
public import Idealize.ShloMosaic.Init
public import Idealize.ShloMosaic.Lib.StableHlo.RunHlo

@[expose] public section

set_option maxRecDepth 16384

noncomputable section

namespace Cert.Proof.Range

open Idealize.ShloMosaic Idealize.ShloMosaic.TcCoe Idealize.ShloMosaic.Tactic
open Idealize.SL.Sem

variable {F : FTy → Type} [FloatOps F]

theorem and_one {a b : BitVec 1} (h : IntOp.andi a b = 1#1) : a = 1#1 ∧ b = 1#1 := by
  revert a b; decide

/-- A word between 0 and 15, signed, is below sixteen. -/
theorem word_lt {e : BitVec 32} (h0 : IntOp.cmpi .sge e 0#32 = 1#1) (h1 : IntOp.cmpi .slt e 16#32 = 1#1) : e.toNat < 16 := by
  have h2 : (0#32 : BitVec 32).toInt ≤ e.toInt := by
    have : BitVec.ofBool ((0#32 : BitVec 32).sle e) = 1#1 := h0
    have : (0#32 : BitVec 32).sle e = true := by revert this; cases (0#32 : BitVec 32).sle e <;> decide
    exact BitVec.sle_iff_toInt_le.mp this
  have h3 : e.toInt < (16#32 : BitVec 32).toInt := by
    have : BitVec.ofBool (e.slt 16#32) = 1#1 := h1
    have : e.slt 16#32 = true := by revert this; cases e.slt 16#32 <;> decide
    exact BitVec.slt_iff_toInt_lt.mp this
  have h4 : (0#32 : BitVec 32).toInt = 0 := by decide
  have h5 : (16#32 : BitVec 32).toInt = 16 := by decide
  have := BitVec.toInt_eq_toNat_cond e
  split_ifs at this <;> omega

/-- A word that is at least one, signed, is positive and below 2^31. -/
theorem word_pos {e : BitVec 32} (h0 : IntOp.cmpi .sge e 1#32 = 1#1) : 1 ≤ e.toNat ∧ e.toNat < 2 ^ 31 := by
  have h2 : (1#32 : BitVec 32).toInt ≤ e.toInt := by
    have : BitVec.ofBool ((1#32 : BitVec 32).sle e) = 1#1 := h0
    have : (1#32 : BitVec 32).sle e = true := by revert this; cases (1#32 : BitVec 32).sle e <;> decide
    exact BitVec.sle_iff_toInt_le.mp this
  have h4 : (1#32 : BitVec 32).toInt = 1 := by decide
  have := BitVec.toInt_eq_toNat_cond e
  split_ifs at this <;> omega

/-- The printed predicate, read. -/
theorem decode {e : IVec Pre_tables_in_range.S528 32} {n : IVec Pre_tables_in_range.S1 32}
    {x : FVec F Pre_tables_in_range.S135168x1024 .f32} {g u : FVec F Pre_tables_in_range.S16x1024x512 .f32} {d : FVec F Pre_tables_in_range.S16x512x1024 .f32}
    (h : Pre_tables_in_range.fn e n x g u d = fun _ => 1#1) :
    (∀ i : Fin 528, (e (ix1 i)).toNat < 16) ∧ 1 ≤ (n (ix1 0)).toNat ∧ (n (ix1 0)).toNat < 2 ^ 31 := by
  have p (i : Fin 528) : (IntOp.cmpi .sge (e (ix1 i)) 0#32 = 1#1 ∧ IntOp.cmpi .slt (e (ix1 i)) 16#32 = 1#1) ∧ IntOp.cmpi .sge (n (ix1 0)) 1#32 = 1#1 := by
    have q := congrFun h (ix1 i)
    unfold Pre_tables_in_range.fn at q
    dsimp only at q
    obtain ⟨q1, q2⟩ := and_one q
    obtain ⟨q3, q4⟩ := and_one q1
    refine ⟨⟨q3, q4⟩, ?_⟩
    have q5 (z : Pre_tables_in_range.S1.Idx) : z = ix1 0 := funext fun a => Fin.ext (by
      obtain ⟨a, ha⟩ := a
      obtain rfl : a = 0 := Nat.lt_one_iff.mp ha
      exact Nat.lt_one_iff.mp (z 0).isLt)
    obtain ⟨z, hz⟩ : ∃ z, IntOp.cmpi .sge (n z) 1#32 = 1#1 := ⟨_, q2⟩
    rwa [q5 z] at hz
  exact ⟨fun i => word_lt (p i).1.1 (p i).1.2, word_pos (p 0).2⟩

theorem inRange (m : (ℓ : Loc ExpertsIdeal.nD ExpertsIdeal.τ ExpertsIdeal.sig) → Buf (Elt Ideal) ℓ) (h : Pre_ExpertsIdeal m) :
    ExpertsIdeal.Launch.InRange m := ⟨(decode (h 0)).1, (decode (h 0)).2.1, (decode (h 0)).2.2⟩

/-- The tables of the program as printed are the same functions of the arguments. -/
theorem okBits (m : (ℓ : Loc Experts.nD Experts.τ Experts.sig) → Buf (Elt Bits) ℓ) (h : Pre_Experts m) : Experts.Launch.Ok m :=
  ExpertsIdeal.Launch.ok (F := Bits) m ⟨(decode (h 0)).1, (decode (h 0)).2.1, (decode (h 0)).2.2⟩

theorem experts_frame : Cert.quiescent_Experts := fun m ρ h =>
  (θ_run_mono (Experts.Launch.run_reads m (okBits m h) ρ) fun r hr => ⟨fun c => (hr.1 c).2, hr.2⟩)

theorem expertsIdeal_frame : Cert.quiescent_ExpertsIdeal := fun m ρ h =>
  (θ_run_mono (ExpertsIdeal.Launch.run_reads m (ExpertsIdeal.Launch.ok m (inRange m h)) ρ) fun r hr => ⟨fun c => (hr.1 c).2, hr.2⟩)

end Cert.Proof.Range
-- ==== Proof.ExpertsNet.lean ====
/- One block of the experts' network, as the kernel's body and as a trip of the reference compute it. -/
module

public import proofs.«01_k».proof.Proof.Gen.ExpertsIdeal.Skeleton
public import proofs.«01_k».proof.Proof.Gen.ExpertsReferenceIdeal
public import Idealize.ShloMosaic.Lib.Pointwise
public import Idealize.ShloMosaic.Lib.StableHlo.Predicate

@[expose] public section

set_option maxRecDepth 16384

noncomputable section

namespace Cert.Proof.Net

open Idealize.ShloMosaic Idealize.ShloMosaic.TcCoe Idealize.ShloMosaic.Tactic

/-- A row of a block on a matrix. -/
def lin (x : Fin 1024 → EReal) (g : Fin 1024 → Fin 512 → EReal) (f : Fin 512) : EReal := ∑ k : Fin 1024, x k * g k f

/-- Entry `j` of a row's network: the gate's linear part times its logistic, times the other linear part, then the way down. -/
def net (x : Fin 1024 → EReal) (g u : Fin 1024 → Fin 512 → EReal) (d : Fin 512 → Fin 1024 → EReal) (j : Fin 1024) : EReal :=
  ∑ f : Fin 512, lin x g f * Ideal.div 1 (1 + Ideal.exp (-lin x g f)) * lin x u f * d f j

/-- The block a row lies in. -/
def blk (r : Fin 135168) : Fin 528 := ⟨r.val / 256, by have := r.isLt; omega⟩

/-- An expert's number as an index of the sixteen. -/
def who (w : BitVec 32) : Fin 16 := ⟨w.toNat % 16, Nat.mod_lt _ (by decide)⟩

theorem who_eq {w : BitVec 32} (h : w.toNat < 16) : who w = ⟨w.toNat, h⟩ := Fin.ext (Nat.mod_eq_of_lt h)

/-- The whole result: each row of a used block its network on the block's expert's matrices, zeros past the used blocks. -/
def moe (e : IVec ⟨1, ![528]⟩ 32) (n : IVec ⟨1, ![1]⟩ 32) (x : FVec Ideal ⟨2, ![135168, 1024]⟩ .f32) (g u : FVec Ideal ⟨3, ![16, 1024, 512]⟩ .f32)
    (d : FVec Ideal ⟨3, ![16, 512, 1024]⟩ .f32) (r : Fin 135168) (j : Fin 1024) : EReal :=
  if (blk r).val < (n (ix1 0)).toNat then
    net (fun l => x (ix2 r l)) (fun l f => g (ix3 (who (e (ix1 (blk r)))) l f)) (fun l f => u (ix3 (who (e (ix1 (blk r)))) l f))
      (fun f j => d (ix3 (who (e (ix1 (blk r)))) f j)) j
  else 0

/-- A block's number compared with the number of used blocks, as words. -/
theorem used_iff (b : Fin 528) (n : BitVec 32) (hn : n.toNat < 2 ^ 31) : IntOp.cmpi .slt (BitVec.ofNat 32 b.val) n = 1#1 ↔ b.val < n.toNat := by
  have hb := b.isLt
  have h1 : (BitVec.ofNat 32 b.val).toInt = (b.val : Int) := StableHlo.Predicate.toInt_ofNat_small _ (by omega)
  have h2 : n.toInt = (n.toNat : Int) := by
    have := BitVec.toInt_eq_toNat_cond n
    split_ifs at this <;> omega
  have h3 : IntOp.cmpi .slt (BitVec.ofNat 32 b.val) n = 1#1 ↔ (BitVec.ofNat 32 b.val).slt n = true := by
    show BitVec.ofBool ((BitVec.ofNat 32 b.val).slt n) = 1#1 ↔ _
    cases (BitVec.ofNat 32 b.val).slt n <;> decide
  rw [h3, BitVec.slt_iff_toInt_lt, h1, h2]
  omega

section
open Cert.ExpertsIdeal Cert.ExpertsIdeal.Gen

/-- The kernel's block for a used block: its rows' network. -/
theorem pay1_at (x : Vec Ideal S256x1024 .f32) (g u : Vec Ideal S1x1024x512 .bf16) (d : Vec Ideal S1x512x1024 .bf16) (p : Fin 256) (j : Fin 1024) :
    k0_pay1 x g u d (ix2 p j) = net (fun k => x (ix2 p k)) (fun k f => g (ix3 0 k f)) (fun k f => u (ix3 0 k f)) (fun f j => d (ix3 0 f j)) j := by
  pointwise [k0_pay1]
  simp only [zero_sub]
  rfl

/-- The kernel's block past the used ones: zeros. -/
theorem pay2_at (y : S256x1024.Idx) : k0_pay2 (F := Ideal) y = (0 : EReal) := by
  pointwise [k0_pay2]

end

section
open Cert.ExpertsReferenceIdeal Cert.ExpertsReferenceIdeal.Gen
open Cert.ExpertsReferenceIdeal.Facts₀ Cert.ExpertsReferenceIdeal.Facts

/-- What one trip computes from its block and the three matrices of its expert. -/
def trip (x : FVec Ideal S256x1024 .f32) (g u : FVec Ideal S1024x512 .f32) (d : FVec Ideal S512x1024 .f32) : FVec Ideal S256x1024 .f32 :=
  let h := Host.dotGeneral dot_S256x1024_S1024x512_S256x512_1_0_0_1_n_n none x g
  Host.dotGeneral dot_S256x512_S512x1024_S256x1024_1_0_0_1_n_n none
    (mulf (mulf h (Host.divf (broadcastInDim S256x512 ![] Gen.bcast_S_S256x512 (constant S_ .f32 0x3F800000#32))
        (addf (broadcastInDim S256x512 ![] Gen.bcast_S_S256x512 (constant S_ .f32 0x3F800000#32)) (Host.exp (Host.negf h)))))
      (Host.dotGeneral dot_S256x1024_S1024x512_S256x512_1_0_0_1_n_n none x u)) d

/-- It is the rows' network. -/
theorem trip_at (x : FVec Ideal S256x1024 .f32) (g u : FVec Ideal S1024x512 .f32) (d : FVec Ideal S512x1024 .f32) (p : Fin 256) (j : Fin 1024) :
    trip x g u d (ix2 p j) = net (fun k => x (ix2 p k)) (fun k f => g (ix2 k f)) (fun k f => u (ix2 k f)) (fun f j => d (ix2 f j)) j := by
  pointwise [trip]
  rfl

end

end Cert.Proof.Net
-- ==== Proof.ExpertsTrip.lean ====
/- One trip of the experts' reference: block `k` of the result becomes the network of block `k`'s rows on its expert's matrices. -/
module

public import proofs.«01_k».proof.Proof.ExpertsNet
public import proofs.«01_k».proof.Proof.Gen.ExpertsReferenceIdeal.Run
public import Idealize.ShloMosaic.Lib.StableHlo.Predicate
public import Idealize.ShloMosaic.Lib.DynamicIndex

@[expose] public section

set_option maxRecDepth 16384

noncomputable section

namespace Cert.Proof.Loop

open Idealize.ShloMosaic Idealize.ShloMosaic.TcCoe Idealize.ShloMosaic.Tactic
open Cert.ExpertsReferenceIdeal Cert.ExpertsReferenceIdeal.Gen Cert.ExpertsReferenceIdeal.Value
open Cert.Proof.Net

section
variable {α : Type} {N A B : ℕ}

/-- One slab of a rank-three array, taken at a start inside it. -/
theorem slab (x : (⟨3, ![N, A, B]⟩ : Shape).Idx → α) (start : Fin 3 → Int) (h : (⟨3, ![N, A, B]⟩ : Shape).Slices (fun _ => 0) ⟨3, ![1, A, B]⟩)
    (k : Fin N) (h0 : start 0 = (k.val : Int)) (h1 : start 1 = 0) (h2 : start 2 = 0) :
    Host.dynamicSlice ⟨3, ![1, A, B]⟩ x start h = fun y => x (ix3 k (y 1) (y 2)) := by
  have hk := k.isLt
  have e0 : Host.clampedStart ⟨3, ![N, A, B]⟩ ⟨3, ![1, A, B]⟩ h.1 start 0 = k.val := Host.clampedStart_of_le h.1 start 0 k.val h0 (by show k.val + 1 ≤ N; omega)
  have e1 : Host.clampedStart ⟨3, ![N, A, B]⟩ ⟨3, ![1, A, B]⟩ h.1 start 1 = 0 := Host.clampedStart_of_le h.1 start 1 0 h1 (by show 0 + A ≤ A; omega)
  have e2 : Host.clampedStart ⟨3, ![N, A, B]⟩ ⟨3, ![1, A, B]⟩ h.1 start 2 = 0 := Host.clampedStart_of_le h.1 start 2 0 h2 (by show 0 + B ≤ B; omega)
  funext y
  have hy : (y 0).val = 0 := Nat.lt_one_iff.mp (y 0).isLt
  refine congrArg x (funext fun a => Fin.ext ?_)
  match a with
  | 0 => show Host.clampedStart _ _ h.1 start 0 + (y 0).val = k.val; omega
  | 1 => show Host.clampedStart _ _ h.1 start 1 + (y 1).val = (y 1).val; omega
  | 2 => show Host.clampedStart _ _ h.1 start 2 + (y 2).val = (y 2).val; omega

/-- One entry of a vector, taken at a start inside it. -/
theorem entry (x : (⟨1, ![N]⟩ : Shape).Idx → α) (start : Fin 1 → Int) (h : (⟨1, ![N]⟩ : Shape).Slices (fun _ => 0) ⟨1, ![1]⟩)
    (k : Fin N) (h0 : start 0 = (k.val : Int)) : Host.dynamicSlice ⟨1, ![1]⟩ x start h = fun _ => x (ix1 k) := by
  have hk := k.isLt
  have e0 : Host.clampedStart ⟨1, ![N]⟩ ⟨1, ![1]⟩ h.1 start 0 = k.val := Host.clampedStart_of_le h.1 start 0 k.val h0 (by show k.val + 1 ≤ N; omega)
  funext y
  have hy : (y 0).val = 0 := Nat.lt_one_iff.mp (y 0).isLt
  refine congrArg x (funext fun a => Fin.ext ?_)
  match a with
  | 0 => show Host.clampedStart _ _ h.1 start 0 + (y 0).val = k.val; omega

/-- One slab of a rank-three array replaced, at a start inside it. -/
theorem slab_set (x : (⟨3, ![N, A, B]⟩ : Shape).Idx → α) (v : (⟨3, ![1, A, B]⟩ : Shape).Idx → α) (start : Fin 3 → Int)
    (h : (⟨3, ![N, A, B]⟩ : Shape).Slices (fun _ => 0) ⟨3, ![1, A, B]⟩)
    (k : Fin N) (h0 : start 0 = (k.val : Int)) (h1 : start 1 = 0) (h2 : start 2 = 0) (b : Fin N) (p : Fin A) (l : Fin B) :
    Host.dynamicUpdateSlice x v start h (ix3 b p l) = if b = k then v (ix3 0 p l) else x (ix3 b p l) := by
  have hk := k.isLt
  have e0 : Host.clampedStart ⟨3, ![N, A, B]⟩ ⟨3, ![1, A, B]⟩ h.1 start 0 = k.val := Host.clampedStart_of_le h.1 start 0 k.val h0 (by show k.val + 1 ≤ N; omega)
  have e1 : Host.clampedStart ⟨3, ![N, A, B]⟩ ⟨3, ![1, A, B]⟩ h.1 start 1 = 0 := Host.clampedStart_of_le h.1 start 1 0 h1 (by show 0 + A ≤ A; omega)
  have e2 : Host.clampedStart ⟨3, ![N, A, B]⟩ ⟨3, ![1, A, B]⟩ h.1 start 2 = 0 := Host.clampedStart_of_le h.1 start 2 0 h2 (by show 0 + B ≤ B; omega)
  have hp := p.isLt
  have hl := l.isLt
  rw [Host.dynamicUpdateSlice_apply]
  by_cases hb : b = k
  · rw [if_pos hb, dif_pos]
    · refine congrArg v (funext fun a => Fin.ext ?_)
      match a with
      | 0 => show b.val - Host.clampedStart _ _ h.1 start 0 = 0; rw [e0, hb]; omega
      | 1 => show p.val - Host.clampedStart _ _ h.1 start 1 = p.val; omega
      | 2 => show l.val - Host.clampedStart _ _ h.1 start 2 = l.val; omega
    · intro a
      match a with
      | 0 => show Host.clampedStart _ _ h.1 start 0 ≤ b.val ∧ b.val < Host.clampedStart _ _ h.1 start 0 + 1; rw [e0, hb]; omega
      | 1 => show Host.clampedStart _ _ h.1 start 1 ≤ p.val ∧ p.val < Host.clampedStart _ _ h.1 start 1 + A; omega
      | 2 => show Host.clampedStart _ _ h.1 start 2 ≤ l.val ∧ l.val < Host.clampedStart _ _ h.1 start 2 + B; omega
  · rw [if_neg hb, dif_neg]
    intro ha
    have := ha 0
    have h3 : Host.clampedStart _ _ h.1 start 0 ≤ b.val ∧ b.val < Host.clampedStart _ _ h.1 start 0 + 1 := this
    rw [e0] at h3
    exact hb (Fin.ext (by omega))

end

/-- A matrix's slab read as a matrix. -/
theorem wide (W : FVec Ideal S16x1024x512 .f32) (e : Fin 16) :
    shapeCast S1024x512 (fun y : S1x1024x512.Idx => W (ix3 e (y 1) (y 2))) Gen.shapeCasts_S1x1024x512_S1024x512 = fun y => W (ix3 e (y 0) (y 1)) := by
  funext y
  pointwise

theorem tall (W : FVec Ideal S16x512x1024 .f32) (e : Fin 16) :
    shapeCast S512x1024 (fun y : S1x512x1024.Idx => W (ix3 e (y 1) (y 2))) Gen.shapeCasts_S1x512x1024_S512x1024 = fun y => W (ix3 e (y 0) (y 1)) := by
  funext y
  pointwise

variable (V : Valuation τ sig (Elt Ideal))

/-- The carried arrays. -/
abbrev rows : FVec Ideal S528x256x1024 .f32 := V (Proc.devRef .tc main_v2_0)
abbrev expert : IVec S528 32 := V (Proc.devRef .tc main_v2_1)
abbrev gate : FVec Ideal S16x1024x512 .f32 := V (Proc.devRef .tc main_v2_2)
abbrev up : FVec Ideal S16x1024x512 .f32 := V (Proc.devRef .tc main_v2_3)
abbrev down : FVec Ideal S16x512x1024 .f32 := V (Proc.devRef .tc main_v2_4)
abbrev ctr : IVec S_ 32 := V (Proc.devRef .tc main_v2_5)
abbrev result : FVec Ideal S528x256x1024 .f32 := V (Proc.devRef .tc main_v2_6)

variable (k : Fin 528) (hk : ctr V = fun _ => BitVec.ofNat 32 k.val)
include hk

/-- The counter read as a start. -/
theorem ctr_start (i : S_.Idx) : (V (Proc.devRef .tc main_v2_5) i : BitVec 32).toInt = (k.val : Int) := by
  have h := k.isLt
  have e : (V (Proc.devRef .tc main_v2_5) i : BitVec 32) = BitVec.ofNat 32 k.val := congrFun hk i
  rw [e, StableHlo.Predicate.toInt_ofNat_small _ (by omega)]

/-- The block of rows the trip takes. -/
theorem block_rows : res_main_while0b_v10 V = fun y => rows V (ix3 k (y 0) (y 1)) := by
  unfold res_main_while0b_v10
  rw [slab (rows V) _ _ k (ctr_start V k hk _) rfl rfl]
  funext y
  pointwise

/-- The expert the trip takes. -/
theorem block_expert : res_main_while0b_v11 V = fun _ => expert V (ix1 k) := by
  unfold res_main_while0b_v11
  rw [entry (expert V) _ _ k (ctr_start V k hk _)]
  rfl

/-- A matrix index an expert's number wraps to is the number. -/
theorem expert_start (he : (expert V (ix1 k)).toNat < 16) (i : S_.Idx) :
    (select (cmpi .slt (res_main_while0b_v11 V) (constantI S_ 32 0#32)) (addi (res_main_while0b_v11 V) (constantI S_ 32 16#32)) (res_main_while0b_v11 V) i : BitVec 32).toInt
      = ((expert V (ix1 k)).toNat : Int) := by
  have e : (res_main_while0b_v11 V : IVec S_ 32) i = expert V (ix1 k) := congrFun (block_expert V k hk) i
  have e2 : (expert V (ix1 k)).toInt = ((expert V (ix1 k)).toNat : Int) := by
    have := BitVec.toInt_eq_toNat_cond (expert V (ix1 k))
    split_ifs at this <;> omega
  have e3 := select_slt_zero_of_nonneg (res_main_while0b_v11 V : IVec S_ 32) (addi (res_main_while0b_v11 V) (constantI S_ 32 16#32)) (res_main_while0b_v11 V) i
    (by rw [e, e2]; omega)
  refine (congrArg BitVec.toInt e3).trans ?_
  rw [e, e2]

/-- What the trip leaves: block `k` is its rows' network on its expert's matrices, the others are kept. -/
theorem trip_result (he : (expert V (ix1 k)).toNat < 16) (b : Fin 528) (p : Fin 256) (j : Fin 1024) :
    step_main_v2_6 V (ix3 b p j) = if b = k then
        net (fun l => rows V (ix3 k p l)) (fun l f => gate V (ix3 ⟨(expert V (ix1 k)).toNat, he⟩ l f))
          (fun l f => up V (ix3 ⟨(expert V (ix1 k)).toNat, he⟩ l f)) (fun f j => down V (ix3 ⟨(expert V (ix1 k)).toNat, he⟩ f j)) j
      else result V (ix3 b p j) := by
  unfold step_main_v2_6 res_main_while0b_v23
  rw [block_rows V k hk,
    slab (gate V) _ _ ⟨(expert V (ix1 k)).toNat, he⟩ (expert_start V k hk he _) rfl rfl,
    slab (up V) _ _ ⟨(expert V (ix1 k)).toNat, he⟩ (expert_start V k hk he _) rfl rfl,
    slab (down V) _ _ ⟨(expert V (ix1 k)).toNat, he⟩ (expert_start V k hk he _) rfl rfl]
  refine (slab_set (result V) _ _ _ k (ctr_start V k hk _) rfl rfl b p j).trans ?_
  refine congrArg (fun z => if b = k then z else result V (ix3 b p j)) ?_
  refine (?_ : _ = trip (fun y => rows V (ix3 k (y 0) (y 1))) (fun y => gate V (ix3 ⟨(expert V (ix1 k)).toNat, he⟩ (y 0) (y 1)))
    (fun y => up V (ix3 ⟨(expert V (ix1 k)).toNat, he⟩ (y 0) (y 1))) (fun y => down V (ix3 ⟨(expert V (ix1 k)).toNat, he⟩ (y 0) (y 1))) (ix2 p j)).trans (trip_at _ _ _ _ p j)
  have hb (z : FVec Ideal S256x1024 .f32) : broadcastInDim S1x256x1024 ![1, 2] Gen.bcast_S256x1024_S1x256x1024_1_2 z (ix3 0 p j) = z (ix2 p j) := by
    pointwise
  refine (hb _).trans ?_
  unfold trip
  rw [← wide (gate V), ← wide (up V), ← tall (down V)]
  rfl

end Cert.Proof.Loop
-- ==== Proof.ExpertsRef.lean ====
/- What the experts' reference computes: after its 528 trips every block is its rows' network; past the used blocks the
   result is zeros. -/
module

public import proofs.«01_k».proof.Defs
public import proofs.«01_k».proof.Proof.ExpertsTrip
public import Idealize.ShloMosaic.Adequacy
public import Idealize.ShloMosaic.Init
public import Idealize.ShloMosaic.Lib.StableHlo.RunHlo

@[expose] public section

set_option maxRecDepth 16384

noncomputable section

namespace Cert.Proof.Loop

open Idealize.ShloMosaic Idealize.ShloMosaic.TcCoe Idealize.ShloMosaic.Tactic Idealize.SL.Sem Idealize.ShloMosaic.StableHlo
open Cert.ExpertsReferenceIdeal Cert.ExpertsReferenceIdeal.Gen Cert.ExpertsReferenceIdeal.Value
open Cert.Proof.Net

section
variable (E : Valuation τ sig (Elt Ideal)) (h0 : ctr E = fun _ => 0#32) (he : ∀ i : Fin 528, (expert E (ix1 i)).toNat < 16)

/-- What the trips do not write. -/
theorem kept (k : ℕ) : rows (STEP^[k] E) = rows E ∧ expert (STEP^[k] E) = expert E ∧ gate (STEP^[k] E) = gate E ∧ up (STEP^[k] E) = up E
    ∧ down (STEP^[k] E) = down E := by
  induction k with
  | zero => exact ⟨rfl, rfl, rfl, rfl, rfl⟩
  | succ k ih =>
    rw [Function.iterate_succ_apply']
    exact ⟨(STEP_main_v2_0 _).trans ih.1, (STEP_main_v2_1 _).trans ih.2.1, (STEP_main_v2_2 _).trans ih.2.2.1, (STEP_main_v2_3 _).trans ih.2.2.2.1,
      (STEP_main_v2_4 _).trans ih.2.2.2.2⟩

include h0 in
/-- The counter counts the trips. -/
theorem counter (k : ℕ) : ctr (STEP^[k] E) = fun _ => BitVec.ofNat 32 k := by
  induction k with
  | zero => exact h0
  | succ k ih =>
    rw [Function.iterate_succ_apply']
    refine (STEP_main_v2_5 _).trans ?_
    funext i
    have e : (STEP^[k] E) (Proc.devRef .tc main_v2_5) i = BitVec.ofNat 32 k := congrFun ih i
    refine (congrArg (fun z : BitVec 32 => z + 1#32) e).trans ?_
    apply BitVec.eq_of_toNat_eq
    simp [BitVec.toNat_add, BitVec.toNat_ofNat]

include h0 he in
/-- After `k` trips the blocks below `k` are their networks. -/
theorem after_trips (k : ℕ) (hk : k ≤ 528) (b : Fin 528) (hb : b.val < k) (p : Fin 256) (j : Fin 1024) :
    result (STEP^[k] E) (ix3 b p j) = net (fun l => rows E (ix3 b p l)) (fun l f => gate E (ix3 (who (expert E (ix1 b))) l f))
          (fun l f => up E (ix3 (who (expert E (ix1 b))) l f)) (fun f j => down E (ix3 (who (expert E (ix1 b))) f j)) j := by
  induction k with
  | zero => omega
  | succ k ih =>
    obtain ⟨k0, k1, k2, k3, k4⟩ := kept E k
    rw [Function.iterate_succ_apply']
    refine (congrFun (STEP_main_v2_6 _) _).trans ?_
    have hc : ctr (STEP^[k] E) = fun _ => BitVec.ofNat 32 (⟨k, by omega⟩ : Fin 528).val := counter E h0 k
    have he' : (expert (STEP^[k] E) (ix1 ⟨k, by omega⟩)).toNat < 16 := by rw [k1]; exact he _
    refine (trip_result (STEP^[k] E) ⟨k, by omega⟩ hc he' b p j).trans ?_
    by_cases hbk : b = ⟨k, by omega⟩
    · rw [if_pos hbk, ← who_eq he', k0, k1, k2, k3, k4, hbk]
    · rw [if_neg hbk]
      exact ih (by omega) (by have : b.val ≠ k := fun h => hbk (Fin.ext h); omega)

end

section
variable (m : (ℓ : Loc nD τ sig) → Buf (Elt Ideal) ℓ) (c : Dev nD)

/-- The contents the loop is entered at. -/
abbrev E0 : Valuation τ sig (Elt Ideal) := entryContents preI m c

theorem E0_expert : expert (E0 m c) = m (c, Proc.tc.devRef main_arg0) := by
  unfold expert
  simp only [entryContents, afterL_cons, afterL_nil]
  after_reads_simp
  rfl
theorem E0_gate : gate (E0 m c) = m (c, Proc.tc.devRef main_arg3) := by
  unfold gate
  simp only [entryContents, afterL_cons, afterL_nil]
  after_reads_simp
  rfl
theorem E0_up : up (E0 m c) = m (c, Proc.tc.devRef main_arg4) := by
  unfold up
  simp only [entryContents, afterL_cons, afterL_nil]
  after_reads_simp
  rfl
theorem E0_down : down (E0 m c) = m (c, Proc.tc.devRef main_arg5) := by
  unfold down
  simp only [entryContents, afterL_cons, afterL_nil]
  after_reads_simp
  rfl
theorem E0_rows : rows (E0 m c) = shapeCast S528x256x1024 (m (c, Proc.tc.devRef main_arg2) : FVec Ideal S135168x1024 .f32) Gen.shapeCasts_S135168x1024_S528x256x1024 := by
  unfold rows
  simp only [entryContents, afterL_cons, afterL_nil]
  after_reads_simp
  rfl

/-- A row of the flat array among the rows in blocks. -/
theorem row_of (x : FVec Ideal S135168x1024 .f32) (r : Fin 135168) (l : Fin 1024) :
    shapeCast S528x256x1024 x Gen.shapeCasts_S135168x1024_S528x256x1024 (ix3 (blk r) ⟨r.val % 256, Nat.mod_lt _ (by decide)⟩ l) = x (ix2 r l) := by
  have e : (⟨r.val / 256 * 256 + r.val % 256, by have := r.isLt; omega⟩ : Fin 135168) = r := Fin.ext (Nat.div_add_mod' _ _)
  pointwise [blk]

/-- The result at a row. -/
theorem ref_result (he : ∀ i : Fin 528, ((m (c, Proc.tc.devRef main_arg0) : IVec S528 32) (ix1 i)).toNat < 16)
    (hn : ((m (c, Proc.tc.devRef main_arg1) : IVec S1 32) (ix1 0)).toNat < 2 ^ 31) (r : Fin 135168) (j : Fin 1024) :
    out_main_v9 (STEP^[528] (E0 m c)) (ix2 r j)
      = moe (m (c, Proc.tc.devRef main_arg0)) (m (c, Proc.tc.devRef main_arg1)) (m (c, Proc.tc.devRef main_arg2)) (m (c, Proc.tc.devRef main_arg3))
          (m (c, Proc.tc.devRef main_arg4)) (m (c, Proc.tc.devRef main_arg5)) r j := by
  have h1 := iter_main_arg1 m c 528
  have h2 (b : Fin 528) (p : Fin 256) (j : Fin 1024) := after_trips (E0 m c) (ctr_entry m c) (fun i => by rw [E0_expert]; exact he i) 528 le_rfl b b.isLt p j
  generalize STEP^[528] (E0 m c) = Z at h1 h2 ⊢
  unfold out_main_v9
  rw [h1]
  pointwise
  have h3 := h2 (blk r) ⟨r.val % 256, Nat.mod_lt _ (by decide)⟩ j
  rw [E0_expert, E0_gate, E0_up, E0_down, E0_rows] at h3
  have h4 := h3.trans (congrArg (fun f => net f _ _ _ j) (funext (row_of _ r)))
  unfold moe
  by_cases hu : (blk r).val < ((m (c, Proc.tc.devRef main_arg1) : IVec S1 32) (ix1 0)).toNat
  · rw [if_pos hu]
    refine Eq.trans ?_ h4
    have := (used_iff (blk r) _ hn).mpr hu
    exact if_pos this
  · rw [if_neg hu]
    have := mt (used_iff (blk r) _ hn).mp hu
    refine (if_neg this).trans ?_
    show (constant S_ .f32 0#32 : FVec Ideal S_ .f32) ix0 = (0 : EReal)
    pointwise

end
end Cert.Proof.Loop
-- ==== Proof.ExpertsValue.lean ====
/- What the experts' kernel leaves in its result array: `moe` of the six arguments. -/
module

public import proofs.«01_k».proof.Proof.ExpertsTables
public import proofs.«01_k».proof.Proof.ExpertsNet
public import Idealize.ShloMosaic.Lib.Pipeline.ValueKit
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ExpertsIdeal.Launch

open Cert.ExpertsIdeal.Gen Cert.Proof.Net

variable (m : (ℓ : Loc nD τ sig) → Buf (Elt Ideal) ℓ)

/-- The four arrays. -/
abbrev aX (c : Dev nD) : FVec Ideal S135168x1024 .f32 := m (c, Proc.tc.devRef main_arg2)
abbrev aG (c : Dev nD) : FVec Ideal S16x1024x512 .f32 := m (c, Proc.tc.devRef main_arg3)
abbrev aU (c : Dev nD) : FVec Ideal S16x1024x512 .f32 := m (c, Proc.tc.devRef main_arg4)
abbrev aD (c : Dev nD) : FVec Ideal S16x512x1024 .f32 := m (c, Proc.tc.devRef main_arg5)

/-- The weights the call is given. -/
theorem V_gate (c : Dev nD) : V m c main_v12 = aG m c := by
  unfold V
  show StableHlo.after hostOps0 (fun b => m (c, b)) (Proc.devRef .tc main_v12) = _
  after_reads_simp
  rfl
theorem V_up (c : Dev nD) : V m c main_v13 = aU m c := by
  unfold V
  show StableHlo.after hostOps0 (fun b => m (c, b)) (Proc.devRef .tc main_v13) = _
  after_reads_simp
  rfl
theorem V_down (c : Dev nD) : V m c main_v14 = aD m c := by
  unfold V
  show StableHlo.after hostOps0 (fun b => m (c, b)) (Proc.devRef .tc main_v14) = _
  after_reads_simp
  rfl

attribute [local irreducible] V tbl

variable (h : InRange m)

/-- The grid's only coordinate. -/
theorem coords_eq : ∀ t : Fin grid0.N, (blockOf (grid0.coords t)).val = t.val := by decide +kernel

/-- The block each window is on at grid point `t`. -/
theorem idx_0 (t : Fin (cfgM m (ok m h)).N) : ((cfgM m (ok m h)).win 0).index t = ![(source m h (blockOf (grid0.coords t))).val, 0] :=
  transform_0_eq m h (grid0.coords t)
theorem idx_1 (t : Fin (cfgM m (ok m h)).N) : ((cfgM m (ok m h)).win 1).index t = ![(experts m (ix1 (source m h (blockOf (grid0.coords t))))).toNat, 0, 0] :=
  transform_1_eq m h (grid0.coords t)
theorem idx_2 (t : Fin (cfgM m (ok m h)).N) : ((cfgM m (ok m h)).win 2).index t = ![(experts m (ix1 (source m h (blockOf (grid0.coords t))))).toNat, 0, 0] :=
  transform_2_eq m h (grid0.coords t)
theorem idx_3 (t : Fin (cfgM m (ok m h)).N) : ((cfgM m (ok m h)).win 3).index t = ![(experts m (ix1 (source m h (blockOf (grid0.coords t))))).toNat, 0, 0] :=
  transform_3_eq m h (grid0.coords t)
theorem map_4 : ∀ t : Fin grid0.N, cc0_transform_4 (grid0.coords t) = ![t.val, 0] := by decide +kernel
theorem idx_4 (t : Fin (cfgM m (ok m h)).N) : ((cfgM m (ok m h)).win 4).index t = ![t.val, 0] := map_4 t

theorem blk_x (c : Dev nD) (t : Fin (cfgM m (ok m h)).N) (p : Fin 256) (k : Fin 1024) (r : Fin 135168)
    (hr : r.val = 256 * (source m h (blockOf (grid0.coords t))).val + p.val) :
    (iblk m (ok m h) c 0 t : FVec Ideal S256x1024 .f32) (ix2 p k) = aX m c (ix2 r k) := by
  have e : V m c main_arg2 = aX m c := V_kept m c main_arg2 (by decide)
  unfold iblk
  show V m c main_arg2 _ = _
  rw [e]
  refine congrArg (aX m c) ?_
  blk_ext [idx_0 m h t]

theorem blk_gate (c : Dev nD) (t : Fin (cfgM m (ok m h)).N) (k : Fin 1024) (f : Fin 512) :
    (iblk m (ok m h) c 1 t : FVec Ideal S1x1024x512 .bf16) (ix3 0 k f) = aG m c (ix3 (who (experts m (ix1 (source m h (blockOf (grid0.coords t)))))) k f) := by
  have e := V_gate m c
  have w := who_eq (h.expert (source m h (blockOf (grid0.coords t))))
  unfold iblk
  show V m c main_v12 _ = _
  rw [e, w]
  refine congrArg (aG m c) ?_
  blk_ext [idx_1 m h t]

theorem blk_up (c : Dev nD) (t : Fin (cfgM m (ok m h)).N) (k : Fin 1024) (f : Fin 512) :
    (iblk m (ok m h) c 2 t : FVec Ideal S1x1024x512 .bf16) (ix3 0 k f) = aU m c (ix3 (who (experts m (ix1 (source m h (blockOf (grid0.coords t)))))) k f) := by
  have e := V_up m c
  have w := who_eq (h.expert (source m h (blockOf (grid0.coords t))))
  unfold iblk
  show V m c main_v13 _ = _
  rw [e, w]
  refine congrArg (aU m c) ?_
  blk_ext [idx_2 m h t]

theorem blk_down (c : Dev nD) (t : Fin (cfgM m (ok m h)).N) (f : Fin 512) (j : Fin 1024) :
    (iblk m (ok m h) c 3 t : FVec Ideal S1x512x1024 .bf16) (ix3 0 f j) = aD m c (ix3 (who (experts m (ix1 (source m h (blockOf (grid0.coords t)))))) f j) := by
  have e := V_down m c
  have w := who_eq (h.expert (source m h (blockOf (grid0.coords t))))
  unfold iblk
  show V m c main_v14 _ = _
  rw [e, w]
  refine congrArg (aD m c) ?_
  blk_ext [idx_3 m h t]

/-- A grid point below the used blocks takes its own block. -/
theorem source_self (b : Fin 528) (hb : b.val < (count m (ix1 0)).toNat) : source m h b = b :=
  Fin.ext (by show min ((count m (ix1 0)).toNat - 1) b.val = b.val; omega)

include h in
/-- The body's condition at a grid point: its block is used. -/
theorem cond_iff (i : grid0.Coords) : k0_cond1 i (count m (ix1 0)) = 1#1 ↔ (blockOf i).val < (count m (ix1 0)).toNat := by
  refine Iff.trans ?_ (used_iff (blockOf i) (count m (ix1 0)) h.small)
  unfold k0_cond1
  dsimp only
  show _ ↔ Scalar.cmpi .slt (BitVec.ofNat 32 (i 0).val) (count m (ix1 0)) = 1#1
  generalize Scalar.cmpi .slt (BitVec.ofNat 32 (i 0).val) (count m (ix1 0)) = b
  revert b; decide

/-- What the body leaves, given what its four blocks hold. -/
theorem out_of (i : grid0.Coords) (x : Vec Ideal S256x1024 .f32) (g u : Vec Ideal S1x1024x512 .bf16) (d : Vec Ideal S1x512x1024 .bf16)
    (X : FVec Ideal S135168x1024 .f32) (G U : FVec Ideal S16x1024x512 .f32) (D : FVec Ideal S16x512x1024 .f32)
    (p : Fin 256) (j : Fin 1024) (r : Fin 135168) (hr : blk r = blockOf i)
    (hx : source m h (blockOf i) = blockOf i → ∀ k, x (ix2 p k) = X (ix2 r k))
    (hg : ∀ k f, g (ix3 0 k f) = G (ix3 (who (experts m (ix1 (source m h (blockOf i))))) k f))
    (hu : ∀ k f, u (ix3 0 k f) = U (ix3 (who (experts m (ix1 (source m h (blockOf i))))) k f))
    (hd : ∀ f j, d (ix3 0 f j) = D (ix3 (who (experts m (ix1 (source m h (blockOf i))))) f j)) :
    out i (used m) x g u d (ix2 p j) = moe (experts m) (count m) X G U D r j := by
  unfold out moe
  rw [used_count, hr]
  by_cases hb : (blockOf i).val < (count m (ix1 0)).toNat
  · rw [if_pos ((cond_iff m h i).mpr hb), if_pos hb, pay1_at]
    have hs : source m h (blockOf i) = blockOf i := source_self m h _ hb
    simp only [hs] at hg hu hd
    simp only [hx hs, hg, hu, hd]
  · rw [if_neg (mt (cond_iff m h i).mp hb), if_neg hb, pay2_at]

/-- What the output's buffer is left at, at a grid point. -/
theorem out_at (c : Dev nD) (t : Fin (cfgM m (ok m h)).N) (p : Fin 256) (j : Fin 1024) (r : Fin 135168) (hr : r.val = 256 * t.val + p.val) :
    out (grid0.coords t) (used m) (iblk m (ok m h) c 0 t) (iblk m (ok m h) c 1 t) (iblk m (ok m h) c 2 t) (iblk m (ok m h) c 3 t) (ix2 p j)
      = moe (experts m) (count m) (aX m c) (aG m c) (aU m c) (aD m c) r j := by
  have ht : (blockOf (grid0.coords t)).val = t.val := coords_eq t
  have hp := p.isLt
  have hb : blk r = blockOf (grid0.coords t) := Fin.ext (by show r.val / 256 = _; rw [ht]; omega)
  exact out_of m h (grid0.coords t) _ _ _ _ _ _ _ _ p j r hb (fun hs k => blk_x m h c t p k r (by rw [hs, ht]; exact hr))
    (fun k f => blk_gate m h c t k f) (fun k f => blk_up m h c t k f) (fun f j => blk_down m h c t f j)

/-- The result array. -/
def G (c : Dev nD) : FVec Ideal S135168x1024 .f32 := fun y => moe (experts m) (count m) (aX m c) (aG m c) (aU m c) (aD m c) (y 0) (y 1)

theorem split (y : S256x1024.Idx) : ∃ (p : Fin 256) (j : Fin 1024), y = ix2 p j := by
  idx_vars y
  exact ⟨_, _, rfl⟩

/-- The blocks written back are all there are. -/
theorem covers : ((cfgM m (ok m h)).win 4).Covers := by
  refine ⟨(by decide : ∀ a, 0 < S256x1024.size a), fun β => ⟨⟨(β (0 : Fin 2)).val, ?_⟩, flush_4 m (ok m h) _, ?_⟩⟩
  · exact lt_of_lt_of_le (β (0 : Fin 2)).isLt (by show (135168 + 256 - 1) / 256 ≤ 528; decide)
  · intro a
    refine ⟨?_, .inl rfl⟩
    refine (congrFun (idx_4 m h _) a).trans ?_
    obtain ⟨a, ha⟩ := a
    match a, ha with
    | 0, _ => rfl
    | 1, _ => exact (Nat.lt_one_iff.mp (lt_of_lt_of_le (β (1 : Fin 2)).isLt (by show (1024 + 1024 - 1) / 1024 ≤ 1; decide))).symm

theorem final (c : Dev nD) : (dats m (ok m h) 0 c).arrAt 4 (cfgM m (ok m h)).N = G m c := by
  refine (dats m (ok m h) 0 c).arrAt_eq_of_covers 4 _ (covers m h) fun t _ y => ?_
  rw [after_4]
  blk_simp [idx_4 m h t]
  obtain ⟨p, j, rfl⟩ := split y
  have ht : t.val < 528 := t.isLt
  have e : ((spec0 4).arr.view.slice ((pcfg0.win (adm m (ok m h)) 4).rect t)).emb (ix2 p j) = ix2 ⟨256 * t.val + p.val, by omega⟩ j := by
    have i0 := congrFun (idx_4 m h t) (0 : Fin 2)
    have i1 := congrFun (idx_4 m h t) (1 : Fin 2)
    blk_ext [idx_4 m h t]
    · exact congrArg (fun z => z * 256 + p.val) i0 |>.trans (congrArg (· + p.val) (Nat.mul_comm _ _))
    · exact (congrArg (fun z => z * 1024 + j.val) i1).trans (by simp)
  exact (out_at m h c t p j _ rfl).trans (congrArg (G m c) e.symm)

end Cert.ExpertsIdeal.Launch
-- ==== Proof.ExpertsEquation.lean ====
/- The experts' claims: the frames of the reference, and the equation of the two programs' results. -/
module

public import proofs.«01_k».proof.Proof.ExpertsRange
public import proofs.«01_k».proof.Proof.ExpertsRef
public import proofs.«01_k».proof.Proof.ExpertsValue
public import Idealize.ShloMosaic.Adequacy
public import Idealize.ShloMosaic.Init

@[expose] public section

set_option maxRecDepth 16384

noncomputable section

namespace Cert.Proof.Range

open Idealize.ShloMosaic Idealize.ShloMosaic.TcCoe Idealize.ShloMosaic.Tactic
open Idealize.SL.Sem

/-- The reference ends with its arguments as they were and no semaphore held. -/
theorem experts_ref_frame : Cert.quiescent_ExpertsReferenceIdeal := fun m ρ _ =>
  θ_run_mono (ExpertsReferenceIdeal.Value.run m ρ) fun r h => ⟨fun c => (h c).2, sem_eq_zero_of_no_sems (by decide) r.2⟩

theorem experts_ref_frame_pre : Cert.quiescent_ExpertsReferenceIdeal_pre_tables_in_range := fun m ρ _ =>
  θ_run_mono (ExpertsReferenceIdeal.Value.run m ρ) fun r h => ⟨fun c => (h c).2, sem_eq_zero_of_no_sems (by decide) r.2⟩

/-- What the reference leaves, from tables in range: `moe` of its arguments. -/
theorem ref_array (m : (ℓ : Loc ExpertsReferenceIdeal.nD ExpertsReferenceIdeal.τ ExpertsReferenceIdeal.sig) → Buf (Elt Ideal) ℓ) (c : Dev ExpertsReferenceIdeal.nD)
    (e : IVec ⟨1, ![528]⟩ 32) (n : IVec ⟨1, ![1]⟩ 32) (x : FVec Ideal ⟨2, ![135168, 1024]⟩ .f32) (g u : FVec Ideal ⟨3, ![16, 1024, 512]⟩ .f32)
    (d : FVec Ideal ⟨3, ![16, 512, 1024]⟩ .f32)
    (h0 : m (c, Proc.tc.devRef ExpertsReferenceIdeal.main_arg0) = e) (h1 : m (c, Proc.tc.devRef ExpertsReferenceIdeal.main_arg1) = n)
    (h2 : m (c, Proc.tc.devRef ExpertsReferenceIdeal.main_arg2) = x) (h3 : m (c, Proc.tc.devRef ExpertsReferenceIdeal.main_arg3) = g)
    (h4 : m (c, Proc.tc.devRef ExpertsReferenceIdeal.main_arg4) = u) (h5 : m (c, Proc.tc.devRef ExpertsReferenceIdeal.main_arg5) = d)
    (he : ∀ i : Fin 528, (e (ix1 i)).toNat < 16) (hn : (n (ix1 0)).toNat < 2 ^ 31) :
    ExpertsReferenceIdeal.Value.out_main_v9 (ExpertsReferenceIdeal.Value.STEP^[528] (Loop.E0 m c)) = fun y => Net.moe e n x g u d (y 0) (y 1) := by
  subst h0 h1 h2 h3 h4 h5
  funext y
  idx_vars y
  exact Loop.ref_result m c he hn y0 y1

/-- The experts' result is the reference's. -/
theorem experts_value : Cert.algebraic_ExpertsIdeal_ExpertsReferenceIdeal := by
  intro m g m' g' hpre hagree
  have h := inRange m hpre
  refine ⟨fun c => ExpertsIdeal.Launch.G m c, ?_, ?_⟩
  · exact θ_run_mono (ExpertsIdeal.Launch.run_reads m (ExpertsIdeal.Launch.ok m h) g) fun r hr c =>
      ⟨(hr.1 c).1.trans (ExpertsIdeal.Launch.final m h c), (hr.1 c).2⟩
  · refine θ_run_mono (ExpertsReferenceIdeal.Value.run m' g') fun r hr c => ⟨(hr c).1.trans ?_, (hr c).2⟩
    obtain rfl : c = (0 : Dev ExpertsReferenceIdeal.nD) := Subsingleton.elim _ _
    have a := hagree (0 : Dev ExpertsIdeal.nD)
    exact ref_array m' 0 _ _ _ _ _ _ a.1 a.2.1 a.2.2.1 a.2.2.2.1 a.2.2.2.2.1 a.2.2.2.2.2 h.expert h.small

end Cert.Proof.Range
-- ==== Proof.SsdPure.lean ====
/- The state space layer's chunk as mathematics: the causal convolution of four taps, the activation, the step sizes, the running
   sum of the decays, a head's end state; and what the kernel's payloads read at an index. -/
module

public import proofs.«01_k».proof.Proof.Gen.SsdIdeal.Skeleton
public import Idealize.ShloMosaic.Lib.Pointwise

@[expose] public section

set_option maxRecDepth 16384

noncomputable section

open Idealize.ShloMosaic Idealize.ShloMosaic.TcCoe Idealize.SL.Sem

namespace Cert.SsdPure

/-- A sequence's rows behind the three rows before it, one channel. -/
def past (buf : Fin 3 → EReal) (x : Fin 64 → EReal) (r : Fin 67) : EReal :=
  if h : r.val < 3 then buf ⟨r.val, h⟩ else x ⟨r.val - 3, by omega⟩

/-- The causal convolution at row `p`: four taps over the row and the three before it. -/
def conv (w : Fin 4 → EReal) (v : Fin 67 → EReal) (p : Fin 64) : EReal :=
  w 0 * v ⟨p.val, by omega⟩ + w 1 * v ⟨p.val + 1, by omega⟩ + w 2 * v ⟨p.val + 2, by omega⟩ + w 3 * v ⟨p.val + 3, by omega⟩

/-- The activation `x / (1 + e^(-x))`. -/
def silu (x : EReal) : EReal := x * Ideal.div 1 (1 + Ideal.exp (-x))

/-- The step size `log (1 + e^x)`, in its stable form. -/
def softplus (x : EReal) : EReal := max x 0 + Ideal.log1p (Ideal.exp (-(FloatOps.absf (F := Ideal) (φ := .f32) x)))

/-- The sum of the `w` entries ending at row `p`, as many of them as there are. -/
def acc (a : Fin 64 → EReal) (w : ℕ) (p : Fin 64) : EReal :=
  ∑ i ∈ Finset.range w, if h : i ≤ p.val then a ⟨p.val - i, by omega⟩ else 0

/-- A head's end state at one entry: the entry before decayed over the whole chunk, plus the rows' products decayed from their
    row to the end. -/
def state (h0 : EReal) (a bm x dt : Fin 64 → EReal) : EReal :=
  h0 * Ideal.exp (acc a 64 63) + ∑ j : Fin 64, (bm j * Ideal.exp (acc a 64 63 - acc a 64 j)) * (x j * dt j)

/-- Two windows side by side are one of twice the width. -/
theorem acc_double (a : Fin 64 → EReal) (s : ℕ) (p : Fin 64) :
    acc a s p + (if h : s ≤ p.val then acc a s ⟨p.val - s, by omega⟩ else 0) = acc a (s + s) p := by
  unfold acc
  rw [Finset.sum_range_add]
  congr 1
  by_cases h : s ≤ p.val
  · rw [dif_pos h]
    refine Finset.sum_congr rfl fun i _ => ?_
    by_cases hi : i ≤ p.val - s
    · rw [dif_pos hi, dif_pos (by omega)]
      exact congrArg a (Fin.ext (by show p.val - s - i = p.val - (s + i); omega))
    · rw [dif_neg hi, dif_neg (by omega)]
  · rw [dif_neg h]
    refine (Finset.sum_eq_zero fun i _ => ?_).symm
    rw [dif_neg (by omega)]

theorem acc_one (a : Fin 64 → EReal) (p : Fin 64) : acc a 1 p = a p := by
  unfold acc
  rw [Finset.sum_range_one, dif_pos (Nat.zero_le _)]
  rfl

section Kernel
open Cert.SsdIdeal Cert.SsdIdeal.Gen

/-- One step of the doubling sum over a block's rows: each row adds the row `s` above it, where there is one. -/
def stp (s : BitVec 32) (v : FVec Ideal S64x128 .f32) : FVec Ideal S64x128 .f32 :=
  addf v (select (cmpi .sge (iota .tc S64x128 32 [0] iota_S64x128_d0_w32) (broadcast S64x128 s))
    (dynamicRotate 0 s none v rotates_S64x128_d0) (broadcast S64x128 (Scalar.ofBits .f32 0x00000000#32)))

theorem pay13_eq (d n : FVec Ideal S64x128 .f32) :
    k0_pay13 (F := Ideal) d n = stp 32#32 (stp 16#32 (stp 8#32 (stp 4#32 (stp 2#32 (stp 1#32 (mulf d n)))))) := rfl

theorem stp_at (s : ℕ) (hs : s < 64) (v : FVec Ideal S64x128 .f32) (p : Fin 64) (l : Fin 128) :
    stp (BitVec.ofNat 32 s) v (ix2 p l) = v (ix2 p l) + (if h : s ≤ p.val then v (ix2 ⟨p.val - s, by omega⟩ l) else 0) := by
  unfold stp
  pointwise
  have hm : ∀ (s : ℕ), s < 64 → ∀ p : Fin 64, (IntOp.cmpi .sge (BitVec.ofNat 32 p.val) (BitVec.ofNat 32 s) = 1#1) ↔ s ≤ p.val := by
    decide +kernel
  have ht : (BitVec.ofNat 32 s).toNat = s := by rw [BitVec.toNat_ofNat]; omega
  congr 1
  by_cases h : s ≤ p.val
  · rw [dif_pos h]
    refine (if_pos ((hm s hs p).2 h)).trans (congrArg v (congrArg (fun r => ix2 r l) (Fin.ext ?_)))
    show (p.val + 64 - (BitVec.ofNat 32 s).toNat % 64) % 64 = p.val - s
    rw [ht]
    omega
  · rw [dif_neg h]
    exact if_neg fun e => h ((hm s hs p).1 e)

/-- A block whose rows hold window sums of width `s` goes to one whose rows hold window sums of twice the width. -/
theorem stp_acc (s : ℕ) (hs : s < 64) (a : Fin 128 → Fin 64 → EReal) (v : FVec Ideal S64x128 .f32)
    (hv : ∀ p l, v (ix2 p l) = acc (a l) s p) (p : Fin 64) (l : Fin 128) : stp (BitVec.ofNat 32 s) v (ix2 p l) = acc (a l) (s + s) p := by
  rw [stp_at s hs, hv, ← acc_double]
  simp only [hv]

/-- After six steps each row holds the sum of the rows up to it. -/
theorem pay13_at (d n : FVec Ideal S64x128 .f32) (p : Fin 64) (l : Fin 128) :
    k0_pay13 (F := Ideal) d n (ix2 p l) = acc (fun k => d (ix2 k l) * n (ix2 k l)) 64 p := by
  rw [pay13_eq]
  refine stp_acc 32 (by omega) (fun l k => d (ix2 k l) * n (ix2 k l)) _ ?_ p l
  refine stp_acc 16 (by omega) _ _ ?_
  refine stp_acc 8 (by omega) _ _ ?_
  refine stp_acc 4 (by omega) _ _ ?_
  refine stp_acc 2 (by omega) _ _ ?_
  refine stp_acc 1 (by omega) _ _ ?_
  intro p l
  rw [acc_one]
  pointwise

theorem pay4_at (w0 : Vec Ideal S1x640 .f32) (v0 : Vec Ideal S64x640 .f32) (w1 : Vec Ideal S1x640 .f32) (v1 : Vec Ideal S64x640 .f32)
    (w2 : Vec Ideal S1x640 .f32) (v2 : Vec Ideal S64x640 .f32) (w3 : Vec Ideal S1x640 .f32) (v3 : Vec Ideal S64x640 .f32)
    (p : Fin 64) (c : Fin 640) :
    k0_pay4 (F := Ideal) w0 v0 w1 v1 w2 v2 w3 v3 (ix2 p c)
      = w0 (ix2 0 c) * v0 (ix2 p c) + w1 (ix2 0 c) * v1 (ix2 p c) + w2 (ix2 0 c) * v2 (ix2 p c) + w3 (ix2 0 c) * v3 (ix2 p c) := by
  pointwise [k0_pay4]

theorem pay7_at (v : FVec Ideal S64x640 .f32) (b : Vec Ideal S1x640 .f32) (p : Fin 64) (c : Fin 640) :
    k0_pay7 (F := Ideal) v b (ix2 p c) = silu (v (ix2 p c) + b (ix2 0 c)) := by
  unfold silu
  pointwise [k0_pay7]
  rw [zero_sub]

theorem pay11_at (v : Vec Ideal S64x128 .f32) (b : Vec Ideal S1x128 .f32) (p : Fin 64) (l : Fin 128) :
    k0_pay11 (F := Ideal) v b (ix2 p l) = softplus (v (ix2 p l) + b (ix2 0 l)) := by
  unfold softplus
  pointwise [k0_pay11]
  rw [zero_sub]

theorem pay12_at (v : Vec Ideal S1x128 .f32) (p : Fin 64) (l : Fin 128) :
    k0_pay12 (F := Ideal) v (ix2 p l) = -Ideal.exp (v (ix2 0 l)) := by
  pointwise [k0_pay12]
  rw [zero_sub]

variable (m b d : FVec Ideal S64x128 .f32) (x : FVec Ideal S64x384 .f32) (h : Vec Ideal S1x64x64 .f32) (n q : Fin 64)

/-- The six stores of the state, one per head: the first three heads read the first group's rows, the others the second's. -/
theorem st0_at : k0_pay28 (F := Ideal) (k0_pay18 m) (k0_pay19 m) (k0_pay21 b) (k0_pay25 x d) (k0_pay26 h) (ix3 0 n q)
      = h (ix3 0 n q) * Ideal.exp (m (ix2 63 0))
        + ∑ j : Fin 64, (b (ix2 j ⟨n.val, by omega⟩) * Ideal.exp (m (ix2 63 0) - m (ix2 j 0))) * (x (ix2 j ⟨q.val, by omega⟩) * d (ix2 j 0)) := by
  pointwise [k0_pay28, k0_pay26, k0_pay25, k0_pay24, k0_pay21, k0_pay19, k0_pay18, k0_pay16]

theorem st1_at : k0_pay34 (F := Ideal) (k0_pay18 m) (k0_pay19 m) (k0_pay21 b) (k0_pay30 x d) (k0_pay31 h) (ix3 0 n q)
      = h (ix3 0 n q) * Ideal.exp (m (ix2 63 1))
        + ∑ j : Fin 64, (b (ix2 j ⟨n.val, by omega⟩) * Ideal.exp (m (ix2 63 1) - m (ix2 j 1))) * (x (ix2 j ⟨64 + q.val, by omega⟩) * d (ix2 j 1)) := by
  pointwise [k0_pay34, k0_pay31, k0_pay30, k0_pay29, k0_pay21, k0_pay19, k0_pay18, k0_pay16]

theorem st2_at : k0_pay40 (F := Ideal) (k0_pay18 m) (k0_pay19 m) (k0_pay21 b) (k0_pay36 x d) (k0_pay37 h) (ix3 0 n q)
      = h (ix3 0 n q) * Ideal.exp (m (ix2 63 2))
        + ∑ j : Fin 64, (b (ix2 j ⟨n.val, by omega⟩) * Ideal.exp (m (ix2 63 2) - m (ix2 j 2))) * (x (ix2 j ⟨128 + q.val, by omega⟩) * d (ix2 j 2)) := by
  pointwise [k0_pay40, k0_pay37, k0_pay36, k0_pay35, k0_pay21, k0_pay19, k0_pay18, k0_pay16]

theorem st3_at : k0_pay49 (F := Ideal) (k0_pay18 m) (k0_pay19 m) (k0_pay41 b) (k0_pay45 x d) (k0_pay46 h) (ix3 0 n q)
      = h (ix3 0 n q) * Ideal.exp (m (ix2 63 3))
        + ∑ j : Fin 64, (b (ix2 j ⟨64 + n.val, by omega⟩) * Ideal.exp (m (ix2 63 3) - m (ix2 j 3))) * (x (ix2 j ⟨192 + q.val, by omega⟩) * d (ix2 j 3)) := by
  pointwise [k0_pay49, k0_pay46, k0_pay45, k0_pay44, k0_pay41, k0_pay19, k0_pay18, k0_pay16]

theorem st4_at : k0_pay56 (F := Ideal) (k0_pay18 m) (k0_pay19 m) (k0_pay41 b) (k0_pay51 x d) (k0_pay52 h) (ix3 0 n q)
      = h (ix3 0 n q) * Ideal.exp (m (ix2 63 4))
        + ∑ j : Fin 64, (b (ix2 j ⟨64 + n.val, by omega⟩) * Ideal.exp (m (ix2 63 4) - m (ix2 j 4))) * (x (ix2 j ⟨256 + q.val, by omega⟩) * d (ix2 j 4)) := by
  pointwise [k0_pay56, k0_pay52, k0_pay51, k0_pay50, k0_pay41, k0_pay19, k0_pay18, k0_pay16]

theorem st5_at : k0_pay64 (F := Ideal) (k0_pay18 m) (k0_pay19 m) (k0_pay41 b) (k0_pay58 x d) (k0_pay59 h) (ix3 0 n q)
      = h (ix3 0 n q) * Ideal.exp (m (ix2 63 5))
        + ∑ j : Fin 64, (b (ix2 j ⟨64 + n.val, by omega⟩) * Ideal.exp (m (ix2 63 5) - m (ix2 j 5))) * (x (ix2 j ⟨320 + q.val, by omega⟩) * d (ix2 j 5)) := by
  pointwise [k0_pay64, k0_pay59, k0_pay58, k0_pay57, k0_pay41, k0_pay19, k0_pay18, k0_pay16]

end Kernel

end Cert.SsdPure
-- ==== Proof.SsdBlock.lean ====
/- What the state space body leaves in its two buffers of the end of the sequence, from the blocks it reads: the convolution's
   last rows, and the six heads' end states put together. -/
module

public import proofs.«01_k».proof.Proof.Gen.SsdIdeal.Frame
public import proofs.«01_k».proof.Proof.SsdPure
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem

namespace Cert.SsdIdeal.Block

open Cert.SsdIdeal Cert.SsdIdeal.Gen Cert.SsdPure

variable (x0 : Vec Ideal S64x640 .f32) (x2 : Vec Ideal S64x128 .f32) (x3 : Vec Ideal S1x6x64x64 .f32) (x4 : Vec Ideal S1x3x640 .f32)
  (x5 : Vec Ideal S4x640 .f32) (x6 : Vec Ideal S1x640 .f32) (x7 x8 : Vec Ideal S1x128 .f32)

/-- The rectangles the body loads and stores. -/
abbrev rSeq : Rect S72x640 := Rect.unit ![8, 0] ![64, 640] inb_S72x640_S64x640_8_0
abbrev rPast : Rect S72x640 := Rect.unit ![5, 0] ![3, 640] inb_S72x640_S3x640_5_0
abbrev rTap0 : Rect S72x640 := Rect.unit ![5, 0] ![64, 640] inb_S72x640_S64x640_5_0
abbrev rTap1 : Rect S72x640 := Rect.unit ![6, 0] ![64, 640] inb_S72x640_S64x640_6_0
abbrev rTap2 : Rect S72x640 := Rect.unit ![7, 0] ![64, 640] inb_S72x640_S64x640_7_0
abbrev rTail : Rect S72x640 := Rect.unit ![69, 0] ![3, 640] inb_S72x640_S3x640_69_0
abbrev rW0 : Rect S4x640 := Rect.unit ![0, 0] ![1, 640] inb_S4x640_S1x640_0_0
abbrev rW1 : Rect S4x640 := Rect.unit ![1, 0] ![1, 640] inb_S4x640_S1x640_1_0
abbrev rW2 : Rect S4x640 := Rect.unit ![2, 0] ![1, 640] inb_S4x640_S1x640_2_0
abbrev rW3 : Rect S4x640 := Rect.unit ![3, 0] ![1, 640] inb_S4x640_S1x640_3_0
abbrev rHead0 : Rect S6x64x64 := Rect.unit ![0, 0, 0] ![1, 64, 64] inb_S6x64x64_S1x64x64_0_0_0
abbrev rHead1 : Rect S6x64x64 := Rect.unit ![1, 0, 0] ![1, 64, 64] inb_S6x64x64_S1x64x64_1_0_0
abbrev rHead2 : Rect S6x64x64 := Rect.unit ![2, 0, 0] ![1, 64, 64] inb_S6x64x64_S1x64x64_2_0_0
abbrev rHead3 : Rect S6x64x64 := Rect.unit ![3, 0, 0] ![1, 64, 64] inb_S6x64x64_S1x64x64_3_0_0
abbrev rHead4 : Rect S6x64x64 := Rect.unit ![4, 0, 0] ![1, 64, 64] inb_S6x64x64_S1x64x64_4_0_0
abbrev rHead5 : Rect S6x64x64 := Rect.unit ![5, 0, 0] ![1, 64, 64] inb_S6x64x64_S1x64x64_5_0_0
abbrev rAll : Rect S6x64x64 := Rect.unit ![0, 0, 0] ![6, 64, 64] inb_S6x64x64_S6x64x64_0_0_0

/-- The two stores into the padded buffer: the rows before the sequence, then the sequence behind them. -/
abbrev slabs : List (View.Piece (Elt Ideal) S72x640 .f32) :=
  [⟨rSeq, k0_pay3 (F := Ideal) x0⟩,
    ⟨rPast, k0_pay2 (F := Ideal) x4⟩]

/-- From its sixth row on the padded buffer holds the sequence behind the rows before it. -/
theorem slabs_at (r : Fin 67) (c : Fin 640) :
    View.canon (slabs x0 x4) (ix2 ⟨5 + r.val, by omega⟩ c) = past (fun k => x4 (ix3 0 k c)) (fun k => x0 (ix2 k c)) r := by
  unfold past
  by_cases h : r.val < 3
  · rw [dif_pos h]
    refine (View.canon_cons_of_not_mem _ _ ?_).trans ?_
    · intro e
      have := (Rect.mem_set_unit (inb := inb_S72x640_S64x640_8_0).1 e 0).1
      have : 8 ≤ 5 + r.val := this
      omega
    · have e : (ix2 ⟨5 + r.val, by omega⟩ c : S72x640.Idx)
          = rPast.emb (ix2 ⟨r.val, h⟩ c) := by
        symm; blk_ext []
      rw [e, View.canon_cons_emb]
      pointwise [k0_pay2]
  · rw [dif_neg h]
    have e : (ix2 ⟨5 + r.val, by omega⟩ c : S72x640.Idx)
        = rSeq.emb (ix2 ⟨r.val - 3, by omega⟩ c) := by
      symm; blk_ext []
    rw [e, View.canon_cons_emb]
    pointwise [k0_pay3]

/-- What each tap of the convolution loads. -/
theorem tap0 (p : Fin 64) (c : Fin 640) :
    (View.whole cc0_scratch0).readCov (slabs x0 x4) rTap0.toLoadRect (ix2 p c)
      = past (fun k => x4 (ix3 0 k c)) (fun k => x0 (ix2 k c)) ⟨p.val, by omega⟩ := by
  rw [View.readCov_eq_canon', ← slabs_at]
  exact congrArg (View.canon (slabs x0 x4)) (show rTap0.emb (ix2 p c) = _ by blk_ext [])

theorem tap1 (p : Fin 64) (c : Fin 640) :
    (View.whole cc0_scratch0).readCov (slabs x0 x4) rTap1.toLoadRect (ix2 p c)
      = past (fun k => x4 (ix3 0 k c)) (fun k => x0 (ix2 k c)) ⟨p.val + 1, by omega⟩ := by
  rw [View.readCov_eq_canon', ← slabs_at]
  exact congrArg (View.canon (slabs x0 x4)) (show rTap1.emb (ix2 p c) = _ by blk_ext [])

theorem tap2 (p : Fin 64) (c : Fin 640) :
    (View.whole cc0_scratch0).readCov (slabs x0 x4) rTap2.toLoadRect (ix2 p c)
      = past (fun k => x4 (ix3 0 k c)) (fun k => x0 (ix2 k c)) ⟨p.val + 2, by omega⟩ := by
  rw [View.readCov_eq_canon', ← slabs_at]
  exact congrArg (View.canon (slabs x0 x4)) (show rTap2.emb (ix2 p c) = _ by blk_ext [])

theorem tap3 (p : Fin 64) (c : Fin 640) :
    (View.whole cc0_scratch0).readCov (slabs x0 x4) rSeq.toLoadRect (ix2 p c)
      = past (fun k => x4 (ix3 0 k c)) (fun k => x0 (ix2 k c)) ⟨p.val + 3, by omega⟩ := by
  rw [View.readCov_eq_canon', ← slabs_at]
  exact congrArg (View.canon (slabs x0 x4)) (show rSeq.emb (ix2 p c) = _ by blk_ext [])

/-- The convolution's last three rows. -/
theorem tail_at (k : Fin 3) (c : Fin 640) :
    k0_pay5 (F := Ideal) ((View.whole cc0_scratch0).readCov (slabs x0 x4) rTail.toLoadRect)
        (ix3 0 k c) = x0 (ix2 ⟨61 + k.val, by omega⟩ c) := by
  have e : x0 (ix2 ⟨61 + k.val, by omega⟩ c) = past (fun k => x4 (ix3 0 k c)) (fun k => x0 (ix2 k c)) ⟨64 + k.val, by omega⟩ := by
    unfold past
    rw [dif_neg (by show ¬ 64 + k.val < 3; omega)]
    exact congrArg x0 (congrArg (fun r => ix2 r c) (Fin.ext (by show 61 + k.val = 64 + k.val - 3; omega)))
  rw [e, ← slabs_at, View.readCov_eq_canon']
  pointwise [k0_pay5]
  exact congrArg (View.canon (slabs x0 x4)) (congrArg (fun r => ix2 r c) (Fin.ext (by show 69 + k.val = 5 + (64 + k.val); omega)))

/-- The convolved rows. -/
abbrev convBuf : FVec Ideal S64x640 .f32 :=
  k0_pay4 (F := Ideal) (View.ld x5 rW0)
    ((View.whole cc0_scratch0).readCov (slabs x0 x4) rTap0.toLoadRect)
    (View.ld x5 rW1)
    ((View.whole cc0_scratch0).readCov (slabs x0 x4) rTap1.toLoadRect)
    (View.ld x5 rW2)
    ((View.whole cc0_scratch0).readCov (slabs x0 x4) rTap2.toLoadRect)
    (View.ld x5 rW3)
    ((View.whole cc0_scratch0).readCov (slabs x0 x4) rSeq.toLoadRect)

theorem ld_tap0 (c : Fin 640) : View.ld x5 rW0 (ix2 0 c) = x5 (ix2 0 c) := by pointwise
theorem ld_tap1 (c : Fin 640) : View.ld x5 rW1 (ix2 0 c) = x5 (ix2 1 c) := by pointwise
theorem ld_tap2 (c : Fin 640) : View.ld x5 rW2 (ix2 0 c) = x5 (ix2 2 c) := by pointwise
theorem ld_tap3 (c : Fin 640) : View.ld x5 rW3 (ix2 0 c) = x5 (ix2 3 c) := by pointwise

theorem convBuf_at (p : Fin 64) (c : Fin 640) :
    convBuf x0 x4 x5 (ix2 p c)
      = conv (fun k => x5 (ix2 k c)) (past (fun k => x4 (ix3 0 k c)) (fun k => x0 (ix2 k c))) p := by
  unfold conv
  refine (pay4_at _ _ _ _ _ _ _ _ p c).trans ?_
  rw [tap0, tap1, tap2, tap3]
  exact congrArg₂ (· + ·) (congrArg₂ (· + ·) (congrArg₂ (· + ·) (congrArg (· * _) (ld_tap0 x5 c)) (congrArg (· * _) (ld_tap1 x5 c)))
    (congrArg (· * _) (ld_tap2 x5 c))) (congrArg (· * _) (ld_tap3 x5 c))

/-- A row's activated entry. -/
def act (p : Fin 64) (c : Fin 640) : EReal :=
  silu (conv (fun k => x5 (ix2 k c)) (past (fun k => x4 (ix3 0 k c)) (fun k => x0 (ix2 k c))) p + x6 (ix2 0 c))

theorem xs_at (p : Fin 64) (c : Fin 384) : k0_pay8 (F := Ideal) (convBuf x0 x4 x5) x6 (ix2 p c) = act x0 x4 x5 x6 p ⟨c.val, by omega⟩ := by
  unfold act
  rw [← convBuf_at, ← pay7_at]
  generalize convBuf x0 x4 x5 = v
  pointwise [k0_pay8]

theorem bm_at (p : Fin 64) (c : Fin 128) :
    k0_pay9 (F := Ideal) (convBuf x0 x4 x5) x6 (ix2 p c) = act x0 x4 x5 x6 p ⟨384 + c.val, by omega⟩ := by
  unfold act
  rw [← convBuf_at, ← pay7_at]
  generalize convBuf x0 x4 x5 = v
  pointwise [k0_pay9]

/-- A row's step size and decay in one lane. -/
def step (l : Fin 128) (p : Fin 64) : EReal := softplus (x2 (ix2 p l) + x7 (ix2 0 l))
def decay (l : Fin 128) (p : Fin 64) : EReal := step x2 x7 l p * -Ideal.exp (x8 (ix2 0 l))

theorem dt_at (p : Fin 64) (l : Fin 128) : k0_pay11 (F := Ideal) x2 x7 (ix2 p l) = step x2 x7 l p := pay11_at x2 x7 p l

theorem cum_at (p : Fin 64) (l : Fin 128) :
    k0_pay13 (F := Ideal) (k0_pay11 x2 x7) (k0_pay12 x8) (ix2 p l) = acc (decay x2 x7 x8 l) 64 p := by
  rw [pay13_at]
  refine congrArg (fun a => acc a 64 p) (funext fun k => ?_)
  rw [dt_at, pay12_at]
  rfl

/-- The lane, the channel and the group's column that a head reads. -/
abbrev lane (h : Fin 6) : Fin 128 := ⟨h.val, by omega⟩
abbrev xcol (h : Fin 6) (q : Fin 64) : Fin 640 := ⟨h.val * 64 + q.val, by omega⟩
abbrev bcol (h : Fin 6) (n : Fin 64) : Fin 640 := ⟨384 + (h.val / 3 * 64 + n.val), by omega⟩

/-- A head's end state in a block. -/
def fin (h : Fin 6) (n q : Fin 64) : EReal :=
  state (x3 (ix4 0 h n q)) (decay x2 x7 x8 (lane h)) (fun j => act x0 x4 x5 x6 j (bcol h n)) (fun j => act x0 x4 x5 x6 j (xcol h q))
    (step x2 x7 (lane h))

theorem ld_h0 (n q : Fin 64) :
    View.ld (k0_pay1 (F := Ideal) x3) rHead0 (ix3 0 n q) = x3 (ix4 0 0 n q) := by
  pointwise [k0_pay1]
theorem ld_h1 (n q : Fin 64) :
    View.ld (k0_pay1 (F := Ideal) x3) rHead1 (ix3 0 n q) = x3 (ix4 0 1 n q) := by
  pointwise [k0_pay1]
theorem ld_h2 (n q : Fin 64) :
    View.ld (k0_pay1 (F := Ideal) x3) rHead2 (ix3 0 n q) = x3 (ix4 0 2 n q) := by
  pointwise [k0_pay1]
theorem ld_h3 (n q : Fin 64) :
    View.ld (k0_pay1 (F := Ideal) x3) rHead3 (ix3 0 n q) = x3 (ix4 0 3 n q) := by
  pointwise [k0_pay1]
theorem ld_h4 (n q : Fin 64) :
    View.ld (k0_pay1 (F := Ideal) x3) rHead4 (ix3 0 n q) = x3 (ix4 0 4 n q) := by
  pointwise [k0_pay1]
theorem ld_h5 (n q : Fin 64) :
    View.ld (k0_pay1 (F := Ideal) x3) rHead5 (ix3 0 n q) = x3 (ix4 0 5 n q) := by
  pointwise [k0_pay1]

/-- Putting a head's entries together: the state before, the running sum, the two activated columns, the step size. -/
theorem glue {h0 h0' m63 m63' : EReal} {m m' b b' x x' d d' : Fin 64 → EReal} (eh : h0 = h0') (em : m63 = m63') (hm : m = m') (hb : b = b')
    (hx : x = x') (hd : d = d') :
    h0 * Ideal.exp m63 + ∑ j : Fin 64, (b j * Ideal.exp (m63 - m j)) * (x j * d j)
      = h0' * Ideal.exp m63' + ∑ j : Fin 64, (b' j * Ideal.exp (m63' - m' j)) * (x' j * d' j) := by
  subst eh em hm hb hx hd; rfl

/-- The buffer of the states, whole. -/
def stateBuf : FVec Ideal S6x64x64 .f32 := fun y => fin x0 x2 x3 x4 x5 x6 x7 x8 (y 0) (y 1) (y 2)

/-- The convolved, activated rows and the running sums, as every head reads them. -/
abbrev cumBuf : FVec Ideal S64x128 .f32 := k0_pay13 (F := Ideal) (k0_pay11 x2 x7) (k0_pay12 x8)
abbrev bmBuf : FVec Ideal S64x128 .f32 := k0_pay9 (F := Ideal) (convBuf x0 x4 x5) x6
abbrev xsBuf : FVec Ideal S64x384 .f32 := k0_pay8 (F := Ideal) (convBuf x0 x4 x5) x6

theorem head0 (n q : Fin 64) :
    k0_pay28 (F := Ideal) (k0_pay18 (cumBuf x2 x7 x8)) (k0_pay19 (cumBuf x2 x7 x8)) (k0_pay21 (bmBuf x0 x4 x5 x6))
        (k0_pay25 (xsBuf x0 x4 x5 x6) (k0_pay11 x2 x7)) (k0_pay26 (View.ld (k0_pay1 x3) rHead0)) (ix3 0 n q)
      = fin x0 x2 x3 x4 x5 x6 x7 x8 0 n q := by
  refine (st0_at _ _ _ _ _ n q).trans ?_
  refine glue (ld_h0 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + n.val = 384 + (0 / 3 * 64 + n.val); omega)))
  · exact (xs_at x0 x4 x5 x6 j _).trans (congrArg (act x0 x4 x5 x6 j) (Fin.ext (by show q.val = 0 * 64 + q.val; omega)))

theorem head1 (n q : Fin 64) :
    k0_pay34 (F := Ideal) (k0_pay18 (cumBuf x2 x7 x8)) (k0_pay19 (cumBuf x2 x7 x8)) (k0_pay21 (bmBuf x0 x4 x5 x6))
        (k0_pay30 (xsBuf x0 x4 x5 x6) (k0_pay11 x2 x7)) (k0_pay31 (View.ld (k0_pay1 x3) rHead1)) (ix3 0 n q)
      = fin x0 x2 x3 x4 x5 x6 x7 x8 1 n q := by
  refine (st1_at _ _ _ _ _ n q).trans ?_
  refine glue (ld_h1 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + n.val = 384 + (1 / 3 * 64 + n.val); omega)))
  · exact (xs_at x0 x4 x5 x6 j _).trans (congrArg (act x0 x4 x5 x6 j) (Fin.ext (by show 64 + q.val = 1 * 64 + q.val; omega)))

theorem head2 (n q : Fin 64) :
    k0_pay40 (F := Ideal) (k0_pay18 (cumBuf x2 x7 x8)) (k0_pay19 (cumBuf x2 x7 x8)) (k0_pay21 (bmBuf x0 x4 x5 x6))
        (k0_pay36 (xsBuf x0 x4 x5 x6) (k0_pay11 x2 x7)) (k0_pay37 (View.ld (k0_pay1 x3) rHead2)) (ix3 0 n q)
      = fin x0 x2 x3 x4 x5 x6 x7 x8 2 n q := by
  refine (st2_at _ _ _ _ _ n q).trans ?_
  refine glue (ld_h2 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + n.val = 384 + (2 / 3 * 64 + n.val); omega)))
  · exact (xs_at x0 x4 x5 x6 j _).trans (congrArg (act x0 x4 x5 x6 j) (Fin.ext (by show 128 + q.val = 2 * 64 + q.val; omega)))

theorem head3 (n q : Fin 64) :
    k0_pay49 (F := Ideal) (k0_pay18 (cumBuf x2 x7 x8)) (k0_pay19 (cumBuf x2 x7 x8)) (k0_pay41 (bmBuf x0 x4 x5 x6))
        (k0_pay45 (xsBuf x0 x4 x5 x6) (k0_pay11 x2 x7)) (k0_pay46 (View.ld (k0_pay1 x3) rHead3)) (ix3 0 n q)
      = fin x0 x2 x3 x4 x5 x6 x7 x8 3 n q := by
  refine (st3_at _ _ _ _ _ n q).trans ?_
  refine glue (ld_h3 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + (64 + n.val) = 384 + (3 / 3 * 64 + n.val); omega)))
  · exact (xs_at x0 x4 x5 x6 j _).trans (congrArg (act x0 x4 x5 x6 j) (Fin.ext (by show 192 + q.val = 3 * 64 + q.val; omega)))

theorem head4 (n q : Fin 64) :
    k0_pay56 (F := Ideal) (k0_pay18 (cumBuf x2 x7 x8)) (k0_pay19 (cumBuf x2 x7 x8)) (k0_pay41 (bmBuf x0 x4 x5 x6))
        (k0_pay51 (xsBuf x0 x4 x5 x6) (k0_pay11 x2 x7)) (k0_pay52 (View.ld (k0_pay1 x3) rHead4)) (ix3 0 n q)
      = fin x0 x2 x3 x4 x5 x6 x7 x8 4 n q := by
  refine (st4_at _ _ _ _ _ n q).trans ?_
  refine glue (ld_h4 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + (64 + n.val) = 384 + (4 / 3 * 64 + n.val); omega)))
  · exact (xs_at x0 x4 x5 x6 j _).trans (congrArg (act x0 x4 x5 x6 j) (Fin.ext (by show 256 + q.val = 4 * 64 + q.val; omega)))

theorem head5 (n q : Fin 64) :
    k0_pay64 (F := Ideal) (k0_pay18 (cumBuf x2 x7 x8)) (k0_pay19 (cumBuf x2 x7 x8)) (k0_pay41 (bmBuf x0 x4 x5 x6))
        (k0_pay58 (xsBuf x0 x4 x5 x6) (k0_pay11 x2 x7)) (k0_pay59 (View.ld (k0_pay1 x3) rHead5)) (ix3 0 n q)
      = fin x0 x2 x3 x4 x5 x6 x7 x8 5 n q := by
  refine (st5_at _ _ _ _ _ n q).trans ?_
  refine glue (ld_h5 x3 n q) (cum_at x2 x7 x8 63 _) (funext fun j => cum_at x2 x7 x8 j _) (funext fun j => ?_) (funext fun j => ?_)
    (funext fun j => dt_at x2 x7 j _)
  · exact (bm_at x0 x4 x5 x6 j _).trans (congrArg (act x0 x4 x5 x6 j) (Fin.ext (by show 384 + (64 + n.val) = 384 + (5 / 3 * 64 + n.val); omega)))
  · exact (xs_at x0 x4 x5 x6 j _).trans (congrArg (act x0 x4 x5 x6 j) (Fin.ext (by show 320 + q.val = 5 * 64 + q.val; omega)))

/-- Each head's store lands on its slice. -/
theorem emb0 (n q : Fin 64) : rHead0.emb (ix3 0 n q) = ix3 0 n q := by blk_ext []
theorem emb1 (n q : Fin 64) : rHead1.emb (ix3 0 n q) = ix3 1 n q := by blk_ext []
theorem emb2 (n q : Fin 64) : rHead2.emb (ix3 0 n q) = ix3 2 n q := by blk_ext []
theorem emb3 (n q : Fin 64) : rHead3.emb (ix3 0 n q) = ix3 3 n q := by blk_ext []
theorem emb4 (n q : Fin 64) : rHead4.emb (ix3 0 n q) = ix3 4 n q := by blk_ext []
theorem emb5 (n q : Fin 64) : rHead5.emb (ix3 0 n q) = ix3 5 n q := by blk_ext []

/-- The six stores over the fill leave the six heads' end states. -/
theorem states_at (y : S6x64x64.Idx) :
    View.canon (([
        ⟨rHead5, k0_pay64 (F := Ideal) (k0_pay18 (cumBuf x2 x7 x8)) (k0_pay19 (cumBuf x2 x7 x8)) (k0_pay41 (bmBuf x0 x4 x5 x6))
          (k0_pay58 (xsBuf x0 x4 x5 x6) (k0_pay11 x2 x7)) (k0_pay59 (View.ld (k0_pay1 x3) rHead5))⟩,
        ⟨rHead4, k0_pay56 (F := Ideal) (k0_pay18 (cumBuf x2 x7 x8)) (k0_pay19 (cumBuf x2 x7 x8)) (k0_pay41 (bmBuf x0 x4 x5 x6))
          (k0_pay51 (xsBuf x0 x4 x5 x6) (k0_pay11 x2 x7)) (k0_pay52 (View.ld (k0_pay1 x3) rHead4))⟩,
        ⟨rHead3, k0_pay49 (F := Ideal) (k0_pay18 (cumBuf x2 x7 x8)) (k0_pay19 (cumBuf x2 x7 x8)) (k0_pay41 (bmBuf x0 x4 x5 x6))
          (k0_pay45 (xsBuf x0 x4 x5 x6) (k0_pay11 x2 x7)) (k0_pay46 (View.ld (k0_pay1 x3) rHead3))⟩,
        ⟨rHead2, k0_pay40 (F := Ideal) (k0_pay18 (cumBuf x2 x7 x8)) (k0_pay19 (cumBuf x2 x7 x8)) (k0_pay21 (bmBuf x0 x4 x5 x6))
          (k0_pay36 (xsBuf x0 x4 x5 x6) (k0_pay11 x2 x7)) (k0_pay37 (View.ld (k0_pay1 x3) rHead2))⟩,
        ⟨rHead1, k0_pay34 (F := Ideal) (k0_pay18 (cumBuf x2 x7 x8)) (k0_pay19 (cumBuf x2 x7 x8)) (k0_pay21 (bmBuf x0 x4 x5 x6))
          (k0_pay30 (xsBuf x0 x4 x5 x6) (k0_pay11 x2 x7)) (k0_pay31 (View.ld (k0_pay1 x3) rHead1))⟩,
        ⟨rHead0, k0_pay28 (F := Ideal) (k0_pay18 (cumBuf x2 x7 x8)) (k0_pay19 (cumBuf x2 x7 x8)) (k0_pay21 (bmBuf x0 x4 x5 x6))
          (k0_pay25 (xsBuf x0 x4 x5 x6) (k0_pay11 x2 x7)) (k0_pay26 (View.ld (k0_pay1 x3) rHead0))⟩,
        ⟨rAll, k0_pay1 (F := Ideal) x3⟩] : List (View.Piece (Elt Ideal) S6x64x64 .f32))) y
      = stateBuf x0 x2 x3 x4 x5 x6 x7 x8 y := by
  refine View.canon_append_of_piecesOf (Val := Elt Ideal) (e := .f32) (stateBuf x0 x2 x3 x4 x5 x6 x7 x8) [_] [_, _, _, _, _, _] ⟨?_, ?_, ?_, ?_, ?_, ?_, trivial⟩ y ?_
  · intro z; idx_vars z; obtain rfl : z0 = 0 := Subsingleton.elim _ _; rw [emb5]; exact head5 x0 x2 x3 x4 x5 x6 x7 x8 z1 z2
  · intro z; idx_vars z; obtain rfl : z0 = 0 := Subsingleton.elim _ _; rw [emb4]; exact head4 x0 x2 x3 x4 x5 x6 x7 x8 z1 z2
  · intro z; idx_vars z; obtain rfl : z0 = 0 := Subsingleton.elim _ _; rw [emb3]; exact head3 x0 x2 x3 x4 x5 x6 x7 x8 z1 z2
  · intro z; idx_vars z; obtain rfl : z0 = 0 := Subsingleton.elim _ _; rw [emb2]; exact head2 x0 x2 x3 x4 x5 x6 x7 x8 z1 z2
  · intro z; idx_vars z; obtain rfl : z0 = 0 := Subsingleton.elim _ _; rw [emb1]; exact head1 x0 x2 x3 x4 x5 x6 x7 x8 z1 z2
  · intro z; idx_vars z; obtain rfl : z0 = 0 := Subsingleton.elim _ _; rw [emb0]; exact head0 x0 x2 x3 x4 x5 x6 x7 x8 z1 z2
  · exact View.cover_of_tiledL _ ![1, 64, 64] (by rfl) y

end Cert.SsdIdeal.Block
-- ==== Proof.SsdRef.lean ====
/- What the state space layer's reference holds at an index. -/
module

public import proofs.«01_k».proof.Proof.Gen.SsdReferenceIdeal.Read
public import proofs.«01_k».proof.Proof.SsdPure

@[expose] public section

set_option maxRecDepth 16384

noncomputable section

open Idealize.ShloMosaic Idealize.ShloMosaic.TcCoe Idealize.SL.Sem

namespace Cert.SsdReferenceIdeal.Results

open Cert.SsdReferenceIdeal Cert.SsdReferenceIdeal.Gen Cert.SsdReferenceIdeal.Read Cert.SsdPure

variable (X : FVec Ideal S1024x640 .f32) (S : FVec Ideal S1024x128 .f32) (H : FVec Ideal S16x6x64x64 .f32) (B : FVec Ideal S16x3x640 .f32)
  (W : FVec Ideal S4x640 .f32) (CB : FVec Ideal S640 .f32) (DB AL : FVec Ideal S6 .f32)

/-- Row `p` of sequence `b`. -/
abbrev row (b : Fin 16) (p : Fin 64) : Fin 1024 := ⟨b.val * 64 + p.val, by omega⟩

/-- One channel of a sequence behind its past. -/
abbrev seq (b : Fin 16) (c : Fin 640) : Fin 67 → EReal := past (fun k => B (ix3 b k c)) (fun k => X (ix2 (row b k) c))

/-- An activated entry, a step size, a decay, and the two results. -/
def actR (b : Fin 16) (p : Fin 64) (c : Fin 640) : EReal := silu (conv (fun k => W (ix2 k c)) (seq X B b c) p + CB (ix1 c))
def stepR (b : Fin 16) (h : Fin 6) (p : Fin 64) : EReal := softplus (S (ix2 (row b p) ⟨h.val, by omega⟩) + DB (ix1 h))
def decayR (b : Fin 16) (h : Fin 6) (p : Fin 64) : EReal := stepR S DB b h p * -Ideal.exp (AL (ix1 h))
def stateR (b : Fin 16) (h : Fin 6) (q n : Fin 64) : EReal :=
  state (H (ix4 b h q n)) (decayR S DB AL b h) (fun j => actR X B W CB b j ⟨384 + (h.val / 3 * 64 + n.val), by omega⟩)
    (fun j => actR X B W CB b j ⟨h.val * 64 + q.val, by omega⟩) (stepR S DB b h)

theorem ref_seq (b : Fin 16) (r : Fin 67) (c : Fin 640) : val_main_v3 (F := Ideal) X B (ix3 b r c) = seq X B b c r := by
  unfold seq past
  pointwise [val_main_v3, val_main_v0]

theorem ref_conv (b : Fin 16) (p : Fin 64) (c : Fin 640) :
    val_main_v35 (F := Ideal) X B W CB (ix3 b p c) = conv (fun k => W (ix2 k c)) (seq X B b c) p + CB (ix1 c) := by
  unfold conv
  simp only [← ref_seq]
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_cst, val_main_v9, val_main_v8,
    val_main_v7, val_main_v6, val_main_v5, val_main_v4]
  simp only [Nat.add_comm 1 p.val, Nat.add_comm 2 p.val, Nat.add_comm 3 p.val]

theorem ref_act (b : Fin 16) (p : Fin 64) (c : Fin 640) : val_main_v37 (F := Ideal) X B W CB (ix3 b p c) = actR X B W CB b p c := by
  unfold actR silu
  rw [← ref_conv]
  pointwise [val_main_v37, val_main_call0_v5, val_main_call0_v4, val_main_call0_cst_0, val_main_call0_v3, val_main_call0_v2, val_main_call0_cst,
    val_main_call0_v1, val_main_call0_v0]

theorem ref_step (b : Fin 16) (p : Fin 64) (h : Fin 6) : val_main_v44 (F := Ideal) S DB (ix3 b p h) = stepR S DB b h p := by
  unfold stepR softplus
  pointwise [val_main_v44, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst,
    val_main_v43, val_main_v42, val_main_v41, val_main_v2, val_main_v1]
  exact if_neg fun e => e rfl

theorem ref_decay (b : Fin 16) (p : Fin 64) (h : Fin 6) : val_main_v53 (F := Ideal) S DB AL (ix3 b p h) = decayR S DB AL b h p := by
  unfold decayR
  rw [← ref_step]
  pointwise [val_main_v53, val_main_v52, val_main_v51, val_main_v50, val_main_v49]

/-- A fold that adds is the start plus the sum. -/
theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- The window of the running sum. -/
abbrev Win : Shape := ⟨3, ![1, 64, 1]⟩

/-- A sum over the window is a sum over its one long axis. -/
theorem sum_win (g : Win.Idx → EReal) : ∑ k : Fin 64, g (ix3 0 k 0) = ∑ i, g i := by
  refine Fintype.sum_bijective (fun k : Fin 64 => (ix3 0 k 0 : Win.Idx)) ⟨?_, ?_⟩ _ _ fun _ => rfl
  · intro a b e
    exact congrFun e 1
  · intro i
    idx_vars i
    exact ⟨i1, by rw [Subsingleton.elim i0 0, Subsingleton.elim i2 0]⟩

/-- One term of the window's sum at a place of the result. -/
def winTerm (x : S16x64x6.Idx → EReal) (j : S16x64x6.Idx) (i : Win.Idx) : EReal :=
  if hin : ∀ a : Fin 3, (![0, 63, 0] : Fin 3 → ℕ) a ≤ (j a).val * (![1, 1, 1] : Fin 3 → ℕ) a + (i a).val
      ∧ (j a).val * (![1, 1, 1] : Fin 3 → ℕ) a + (i a).val - (![0, 63, 0] : Fin 3 → ℕ) a < S16x64x6.size a
    then x (fun a => ⟨(j a).val * (![1, 1, 1] : Fin 3 → ℕ) a + (i a).val - (![0, 63, 0] : Fin 3 → ℕ) a, (hin a).2⟩) else 0

theorem winTerm_at (x : S16x64x6.Idx → EReal) (b : Fin 16) (p : Fin 64) (h : Fin 6) (k : Fin 64) :
    winTerm x (ix3 b p h) (ix3 0 k 0) = if e : 63 - k.val ≤ p.val then x (ix3 b ⟨p.val - (63 - k.val), by omega⟩ h) else 0 := by
  unfold winTerm
  by_cases e : 63 - k.val ≤ p.val
  · have hin : ∀ a : Fin 3, (![0, 63, 0] : Fin 3 → ℕ) a ≤ ((ix3 b p h : S16x64x6.Idx) a).val * (![1, 1, 1] : Fin 3 → ℕ) a + ((ix3 0 k 0 : Win.Idx) a).val
      ∧ ((ix3 b p h : S16x64x6.Idx) a).val * (![1, 1, 1] : Fin 3 → ℕ) a + ((ix3 0 k 0 : Win.Idx) a).val - (![0, 63, 0] : Fin 3 → ℕ) a < S16x64x6.size a := by
      intro a
      match a with
      | 0 => exact ⟨Nat.zero_le _, by show b.val * 1 + 0 - 0 < 16; omega⟩
      | 1 => exact ⟨by show 63 ≤ p.val * 1 + k.val; omega, by show p.val * 1 + k.val - 63 < 64; omega⟩
      | 2 => exact ⟨Nat.zero_le _, by show h.val * 1 + 0 - 0 < 6; omega⟩
    rw [dif_pos hin, dif_pos e]
    refine congrArg x (funext fun a => ?_)
    match a with
    | 0 => exact Fin.ext (by show b.val * 1 + 0 - 0 = b.val; omega)
    | 1 => exact Fin.ext (by show p.val * 1 + k.val - 63 = p.val - (63 - k.val); omega)
    | 2 => exact Fin.ext (by show h.val * 1 + 0 - 0 = h.val; omega)
  · rw [dif_neg e, dif_neg]
    intro hin
    have h1 : 63 ≤ p.val * 1 + k.val := (hin 1).1
    omega

/-- The running sum: the host sums a window of 64 rows that ends at the row, the rows before the first counting zero. -/
theorem ref_cum (b : Fin 16) (p : Fin 64) (h : Fin 6) :
    val_main_v57 (F := Ideal) S DB AL (ix3 b p h) = acc (decayR S DB AL b h) 64 p := by
  unfold val_main_v57 Host.reduceWindowAdd
  rw [Ideal.hostReduceWindowAdd_def]
  unfold Ideal.hostReduceWindowAdd Host.reduceWindow
  dsimp only
  rw [foldl_sum]
  have hz : val_main_call2_call0_v0 (F := Ideal) (Shape.Idx.first h_S_) = (0 : EReal) := by
    pointwise [val_main_call2_call0_v0, val_main_call2_call0_cst]
  rw [hz, zero_add]
  refine Eq.trans (b := ∑ n : Fin Win.numel, winTerm (val_main_v53 (F := Ideal) S DB AL) (ix3 b p h) (Win.rowMajor.symm n))
    (Finset.sum_congr rfl fun n _ => ?_) ?_
  · unfold winTerm
    by_cases hin : ∀ a : Fin 3, (![0, 63, 0] : Fin 3 → ℕ) a ≤ ((ix3 b p h : S16x64x6.Idx) a).val * (![1, 1, 1] : Fin 3 → ℕ) a + (Win.rowMajor.symm n a).val
      ∧ ((ix3 b p h : S16x64x6.Idx) a).val * (![1, 1, 1] : Fin 3 → ℕ) a + (Win.rowMajor.symm n a).val - (![0, 63, 0] : Fin 3 → ℕ) a < S16x64x6.size a
    · refine (dif_pos hin).trans ?_
      rw [dif_pos hin]
      rfl
    · refine (dif_neg hin).trans ?_
      rw [dif_neg hin]
  rw [Equiv.sum_comp Win.rowMajor.symm, ← sum_win]
  unfold acc
  rw [Finset.sum_range, ← Equiv.sum_comp Fin.revPerm]
  refine Finset.sum_congr rfl fun k _ => ?_
  have hk : 63 - (Fin.revPerm k).val = k.val := by
    rw [Fin.revPerm_apply, Fin.val_rev]
    omega
  rw [winTerm_at]
  by_cases e : k.val ≤ p.val
  · rw [dif_pos (by rw [hk]; exact e), dif_pos e, ref_decay]
    exact congrArg (decayR S DB AL b h) (Fin.ext (by show p.val - (63 - (Fin.revPerm k).val) = p.val - k.val; rw [hk]))
  · rw [dif_neg (by rw [hk]; exact e), dif_neg e]

theorem ref_state (b : Fin 16) (h : Fin 6) (n q : Fin 64) :
    val_main_v73 (F := Ideal) X S H B W CB DB AL (ix4 b h n q) = stateR X S H B W CB DB AL b h q n := by
  unfold stateR state
  simp only [← ref_cum, ← ref_act, ← ref_step]
  pointwise [val_main_v73, val_main_v72, val_main_v71, val_main_v70, val_main_v69, val_main_v68, val_main_v67, val_main_v66, val_main_v65,
    val_main_v64, val_main_v63, val_main_v62, val_main_v61, val_main_v60, val_main_v59, val_main_v58, val_main_v56, val_main_v55, val_main_v54,
    val_main_v48, val_main_v47, val_main_v46, val_main_v45, val_main_v39, val_main_v38]
  exact congrArg (_ + ·) (Finset.sum_congr rfl fun j _ => mul_comm _ _)

theorem ref_tail (b : Fin 16) (k : Fin 3) (c : Fin 640) :
    val_main_v36 (F := Ideal) X B (ix3 b k c) = X (ix2 (row b ⟨61 + k.val, by omega⟩) c) := by
  have e : X (ix2 (row b ⟨61 + k.val, by omega⟩) c) = seq X B b c ⟨64 + k.val, by omega⟩ := by
    unfold seq past
    rw [dif_neg (by show ¬ 64 + k.val < 3; omega)]
    exact congrArg X (congrArg (fun r => ix2 (row b r) c) (Fin.ext (by show 61 + k.val = 64 + k.val - 3; omega)))
  rw [e, ← ref_seq]
  pointwise [val_main_v36]

end Cert.SsdReferenceIdeal.Results
-- ==== Proof.SetLanes.lean ====
/- `zeros.at[0, :K].set(u)` as it prints (a scatter at one pair of zero index words whose update is a whole window of `K` lanes of the
   first row), read at one of the lanes it sets. -/
module

public import Idealize.ShloMosaic.Lib.Routing.OpsOne

@[expose] public section

namespace Cert.SetLanes

open Idealize.ShloMosaic Idealize.ShloMosaic.Routing Idealize.ShloMosaic.ValueIdx

/-- Update `e'` lands at lane `e` of row `w` exactly when the row is the first and the lanes agree. -/
theorem lands {A N K : Nat} (d : ScatterDims (shape2 A N) (shape1 2) (shape1 K)) (huw : d.updateWindowDims = [0]) (hiw : d.insertedWindowDims = [0])
    (idx : IVec (shape1 2) 32) (hidx : ∀ i, idx i = 0#32) (w : Fin A) (e' : Fin K) (e : Fin N) :
    d.resultIdx? (ix1 e') idx = some (ix2 w e) ↔ w.val = 0 ∧ e'.val = e.val := by
  have hkept : d.sKept = [1] := by
    show (shape2 A N).kept d.insertedWindowDims = _
    rw [hiw]
    rfl
  have hwin0 : d.window (ix1 e') 0 = 0 := by
    unfold ScatterDims.window
    rw [dif_neg fun h => by rw [hkept] at h; exact absurd (List.mem_singleton.1 h) (by decide : (0 : Fin 2) ≠ 1)]
  have hwin1 : d.window (ix1 e') 1 = e'.val := by
    unfold ScatterDims.window
    rw [dif_pos (by rw [hkept]; exact List.mem_singleton.2 rfl)]
    exact congrArg (fun a : Fin 1 => (ix1 e' a).val) (Subsingleton.elim _ 0)
  have hstart : ∀ a, d.start (ix1 e') idx a = 0 := by
    intro a
    unfold ScatterDims.start
    split
    · rw [hidx]
      rfl
    · rfl
  rw [resultIdx?_ix2, hstart, hwin0, hstart, hwin1]
  omega

/-- The scatter read at a lane it sets. -/
theorem setLanes {α : Type} {A N K : Nat} (d : ScatterDims (shape2 A N) (shape1 2) (shape1 K)) (huw : d.updateWindowDims = [0])
    (hiw : d.insertedWindowDims = [0]) (x0 : (shape2 A N).Idx → α) (idx : IVec (shape1 2) 32) (hidx : ∀ i, idx i = 0#32)
    (upd : (shape1 K).Idx → α) (w : Fin A) (hw : w.val = 0) (e : Fin N) (k : Fin K) (h : k.val = e.val) :
    Host.scatter d (fun _ b => b) x0 idx upd (ix2 w e) = upd (ix1 k) := by
  refine scatter_set_hit d x0 idx upd _ _ (fun j hj => ?_) (ix1 k) ((lands d huw hiw idx hidx w k e).2 ⟨hw, h⟩)
  have ej : j = ix1 (j 0) := by
    funext a
    match a with
    | 0 => rfl
  rw [ej] at hj ⊢
  exact congrArg (fun a => upd (ix1 a)) (Fin.ext (((lands d huw hiw idx hidx w _ e).1 hj).2.trans h.symm))

end Cert.SetLanes
-- ==== Proof.SsdValue.lean ====
/- The state space layer's two results of the end of the sequence after the sixteen grid points, and their equation with the
   reference. -/
module

public import proofs.«01_k».proof.Proof.Gen.SsdIdeal.Value
public import proofs.«01_k».proof.Proof.SsdBlock
public import proofs.«01_k».proof.Proof.SsdRef
public import proofs.«01_k».proof.Proof.SetLanes

@[expose] public section

set_option maxRecDepth 16384

noncomputable section

open Idealize.ShloMosaic Idealize.ShloMosaic.TcCoe Idealize.SL.Sem

namespace Cert.SsdIdeal.Final

open Cert.SsdIdeal Cert.SsdIdeal.Gen Cert.SsdIdeal.Block Cert.SsdPure
open Cert.SsdReferenceIdeal.Results (row actR stepR decayR stateR seq)

variable (m : (ℓ : Loc nD τ sig) → Buf (Elt Ideal) ℓ)

/-- The block indices: the sequence's rows, its state and its past; the whole array for the weights. -/
theorem idx (t : Fin cfg0.N) : win0_0.index t = ![t.val, 0] ∧ win0_2.index t = ![t.val, 0] ∧ win0_3.index t = ![t.val, 0, 0, 0]
    ∧ win0_4.index t = ![t.val, 0, 0] ∧ win0_5.index t = ![0, 0] ∧ win0_6.index t = ![0, 0] ∧ win0_7.index t = ![0, 0]
    ∧ win0_8.index t = ![0, 0] ∧ win0_12.index t = ![t.val, 0, 0, 0] ∧ win0_13.index t = ![t.val, 0, 0] :=
  (by decide +kernel : ∀ t : Fin grid0.N, win0_0.index t = ![t.val, 0] ∧ win0_2.index t = ![t.val, 0] ∧ win0_3.index t = ![t.val, 0, 0, 0]
    ∧ win0_4.index t = ![t.val, 0, 0] ∧ win0_5.index t = ![0, 0] ∧ win0_6.index t = ![0, 0] ∧ win0_7.index t = ![0, 0]
    ∧ win0_8.index t = ![0, 0] ∧ win0_12.index t = ![t.val, 0, 0, 0] ∧ win0_13.index t = ![t.val, 0, 0]) t

/-- The arguments. -/
abbrev aX (c : Dev nD) : FVec Ideal S1024x640 .f32 := m (c, Proc.tc.devRef main_arg0)
abbrev aS (c : Dev nD) : FVec Ideal S1024x128 .f32 := m (c, Proc.tc.devRef main_arg2)
abbrev aH (c : Dev nD) : FVec Ideal S16x6x64x64 .f32 := m (c, Proc.tc.devRef main_arg3)
abbrev aB (c : Dev nD) : FVec Ideal S16x3x640 .f32 := m (c, Proc.tc.devRef main_arg4)
abbrev aW (c : Dev nD) : FVec Ideal S4x640 .f32 := m (c, Proc.tc.devRef main_arg5)
abbrev aCB (c : Dev nD) : FVec Ideal S640 .f32 := m (c, Proc.tc.devRef main_arg6)
abbrev aDB (c : Dev nD) : FVec Ideal S6 .f32 := m (c, Proc.tc.devRef main_arg7)
abbrev aAL (c : Dev nD) : FVec Ideal S6 .f32 := m (c, Proc.tc.devRef main_arg8)

/-- The blocks at a grid point, from the arguments. -/
theorem blk_x (c : Dev nD) (t : Fin cfg0.N) (p : Fin 64) (k : Fin 640) (h : t.val < 16) :
    (iblk m c 0 t : FVec Ideal S64x640 .f32) (ix2 p k) = aX m c (ix2 (row ⟨t.val, h⟩ p) k) := by
  blk_point [iblk, idx t]

theorem blk_s (c : Dev nD) (t : Fin cfg0.N) (p : Fin 64) (k : Fin 128) (h : t.val < 16) :
    (iblk m c 2 t : FVec Ideal S64x128 .f32) (ix2 p k) = aS m c (ix2 (row ⟨t.val, h⟩ p) k) := by
  blk_point [iblk, idx t]

theorem blk_h (c : Dev nD) (t : Fin cfg0.N) (k : Fin 6) (n q : Fin 64) (h : t.val < 16) :
    (iblk m c 3 t : FVec Ideal S1x6x64x64 .f32) (ix4 0 k n q) = aH m c (ix4 ⟨t.val, h⟩ k q n) := by
  blk_point [iblk, idx t]

theorem blk_b (c : Dev nD) (t : Fin cfg0.N) (k : Fin 3) (l : Fin 640) (h : t.val < 16) :
    (iblk m c 4 t : FVec Ideal S1x3x640 .f32) (ix3 0 k l) = aB m c (ix3 ⟨t.val, h⟩ k l) := by
  blk_point [iblk, idx t]

theorem blk_w (c : Dev nD) (t : Fin cfg0.N) (k : Fin 4) (l : Fin 640) :
    (iblk m c 5 t : FVec Ideal S4x640 .f32) (ix2 k l) = aW m c (ix2 k l) := by
  blk_point [iblk, idx t]

theorem blk_cb (c : Dev nD) (t : Fin cfg0.N) (l : Fin 640) : (iblk m c 6 t : FVec Ideal S1x640 .f32) (ix2 0 l) = aCB m c (ix1 l) := by
  blk_point [iblk, idx t]

/-- Six numbers set into the first lanes of a row of zeros. -/
def padded (v : FVec Ideal S6 .f32) : FVec Ideal S1x128 .f32 :=
  Host.scatter scatter_S1x128_S2_S6_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) v

theorem padded_at (v : FVec Ideal S6 .f32) (k : Fin 6) : padded v (ix2 0 (lane k)) = v (ix1 k) := by
  refine Cert.SetLanes.setLanes scatter_S1x128_S2_S6_0_0_01_0 rfl rfl _ _ (fun i => ?_) v 0 rfl (lane k) k rfl
  idx_vars i
  pointwise
  split <;> rfl

theorem blk_db (c : Dev nD) (t : Fin cfg0.N) (k : Fin 6) : (iblk m c 7 t : FVec Ideal S1x128 .f32) (ix2 0 (lane k)) = aDB m c (ix1 k) := by
  refine Eq.trans ?_ (padded_at _ k)
  unfold padded
  blk_point [iblk, idx t]

theorem blk_al (c : Dev nD) (t : Fin cfg0.N) (k : Fin 6) : (iblk m c 8 t : FVec Ideal S1x128 .f32) (ix2 0 (lane k)) = aAL m c (ix1 k) := by
  refine Eq.trans ?_ (padded_at _ k)
  unfold padded
  blk_point [iblk, idx t]

/-- The entries of the block at grid point `t` are the sequence's. -/
theorem act_blk (c : Dev nD) (t : Fin cfg0.N) (p : Fin 64) (l : Fin 640) (h : t.val < 16) :
    act (iblk m c 0 t) (iblk m c 4 t) (iblk m c 5 t) (iblk m c 6 t) p l = actR (aX m c) (aB m c) (aW m c) (aCB m c) ⟨t.val, h⟩ p l := by
  unfold act actR
  simp only [blk_x m c t _ _ h, blk_b m c t _ _ h, blk_w, blk_cb]

theorem step_blk (c : Dev nD) (t : Fin cfg0.N) (k : Fin 6) (p : Fin 64) (h : t.val < 16) :
    step (iblk m c 2 t) (iblk m c 7 t) (lane k) p = stepR (aS m c) (aDB m c) ⟨t.val, h⟩ k p := by
  unfold step stepR
  simp only [blk_s m c t _ _ h, blk_db]

theorem decay_blk (c : Dev nD) (t : Fin cfg0.N) (k : Fin 6) (h : t.val < 16) :
    decay (iblk m c 2 t) (iblk m c 7 t) (iblk m c 8 t) (lane k) = decayR (aS m c) (aDB m c) (aAL m c) ⟨t.val, h⟩ k := by
  funext p
  unfold decay decayR
  simp only [step_blk m c t _ _ h, blk_al]

theorem fin_blk (c : Dev nD) (t : Fin cfg0.N) (k : Fin 6) (n q : Fin 64) (h : t.val < 16) :
    fin (iblk m c 0 t) (iblk m c 2 t) (iblk m c 3 t) (iblk m c 4 t) (iblk m c 5 t) (iblk m c 6 t) (iblk m c 7 t) (iblk m c 8 t) k n q
      = stateR (aX m c) (aS m c) (aH m c) (aB m c) (aW m c) (aCB m c) (aDB m c) (aAL m c) ⟨t.val, h⟩ k q n := by
  unfold fin stateR
  rw [decay_blk m c t k h, blk_h m c t k n q h, funext fun j => act_blk m c t j (bcol k n) h, funext fun j => act_blk m c t j (xcol k q) h,
    funext fun j => step_blk m c t k j h]

/-- The last store drops nothing: it adds a unit axis. -/
theorem stored_at (v : Vec Ideal S6x64x64 .f32) (k : Fin 6) (n q : Fin 64) : k0_pay70 (F := Ideal) v (ix4 0 k n q) = v (ix3 k n q) := by
  pointwise [k0_pay70]

/-- What the body leaves in the two buffers at a grid point. -/
theorem after13 (c : Dev nD) (t : Fin cfg0.N) (k : Fin 3) (l : Fin 640) (h : t.val < 16) :
    ((dats m 0 c).after 13 t : FVec Ideal S1x3x640 .f32) (ix3 0 k l) = aX m c (ix2 (row ⟨t.val, h⟩ ⟨61 + k.val, by omega⟩) l) := by
  rw [after0_13]
  unfold outsAt0
  dsimp only
  frame_out
  exact (tail_at (iblk m c 0 t) (iblk m c 4 t) k l).trans (blk_x m c t _ l h)

theorem after12 (c : Dev nD) (t : Fin cfg0.N) (k : Fin 6) (n q : Fin 64) (h : t.val < 16) :
    ((dats m 0 c).after 12 t : FVec Ideal S1x6x64x64 .f32) (ix4 0 k n q)
      = stateR (aX m c) (aS m c) (aH m c) (aB m c) (aW m c) (aCB m c) (aDB m c) (aAL m c) ⟨t.val, h⟩ k q n := by
  rw [after0_12]
  unfold outsAt0
  dsimp only
  frame_out
  simp (discharger := decide) only [View.readCov_skip, View.readCov_fill]
  rw [← fin_blk m c t k n q h]
  refine Eq.trans ?_ (states_at (iblk m c 0 t) (iblk m c 2 t) (iblk m c 3 t) (iblk m c 4 t) (iblk m c 5 t) (iblk m c 6 t) (iblk m c 7 t)
    (iblk m c 8 t) (ix3 k n q))
  rw [View.readCov_eq_canon']
  refine (stored_at _ k n q).trans ?_
  exact congrArg (View.canon _) (show rAll.emb (ix3 k n q) = ix3 k n q by blk_ext [])

/-- The two results, whole. -/
def GT (c : Dev nD) : FVec Ideal S16x3x640 .f32 := fun i => aX m c (ix2 (row (i 0) ⟨61 + (i 1).val, by have h : (i 1).val < 3 := (i 1).isLt; omega⟩) (i 2))
def GH (c : Dev nD) : FVec Ideal S16x6x64x64 .f32 := fun i =>
  stateR (aX m c) (aS m c) (aH m c) (aB m c) (aW m c) (aCB m c) (aDB m c) (aAL m c) (i 0) (i 1) (i 3) (i 2)

theorem final13 (c : Dev nD) : (dats m 0 c).arrAt 13 (cfgs 0).N = GT m c := by
  refine (dats m 0 c).arrAt_eq_of_covers 13 _ (by decide +kernel) fun t _ y => ?_
  blk_simp [idx t]
  idx_vars y
  obtain rfl : y0 = 0 := Subsingleton.elim _ _
  have ht : t.val < 16 := t.isLt
  have e : ((View.whole main_v16_2).slice (win0_13.rect t)).emb (ix3 0 y1 y2) = ix3 ⟨t.val, ht⟩ y1 y2 := by
    blk_ext [idx t]
  rw [e]
  exact after13 m c t y1 y2 ht

theorem final12 (c : Dev nD) : (dats m 0 c).arrAt 12 (cfgs 0).N = GH m c := by
  refine (dats m 0 c).arrAt_eq_of_covers 12 _ (by decide +kernel) fun t _ y => ?_
  blk_simp [idx t]
  idx_vars y
  obtain rfl : y0 = 0 := Subsingleton.elim _ _
  have ht : t.val < 16 := t.isLt
  have e : ((View.whole main_v16_1).slice (win0_12.rect t)).emb (ix4 0 y1 y2 y3) = ix4 ⟨t.val, ht⟩ y1 y2 y3 := by
    blk_ext [idx t]
  rw [e]
  exact after12 m c t y1 y2 y3 ht

end Cert.SsdIdeal.Final

namespace Cert.SsdEquation

open Cert.SsdIdeal Cert.SsdIdeal.Gen Cert.SsdIdeal.Final Cert.SsdPure Cert.SsdReferenceIdeal.Read Cert.SsdReferenceIdeal.Results

variable (m : (ℓ : Loc nD τ sig) → Buf (Elt Ideal) ℓ) (c : Dev nD)

theorem eq_state : (dats m 0 c).arrAt 12 (cfgs 0).N
    = val_main_v73 (F := Ideal) (aX m c) (aS m c) (aH m c) (aB m c) (aW m c) (aCB m c) (aDB m c) (aAL m c) := by
  rw [final12]
  funext i
  idx_vars i
  exact (ref_state _ _ _ _ _ _ _ _ i0 i1 i2 i3).symm

theorem eq_tail : (dats m 0 c).arrAt 13 (cfgs 0).N = val_main_v36 (F := Ideal) (aX m c) (aB m c) := by
  rw [final13]
  funext i
  idx_vars i
  exact (ref_tail _ _ i0 i1 i2).symm

end Cert.SsdEquation
-- ==== Proof.lean ====
module

public import proofs.«01_k».proof.Defs
public import proofs.«01_k».proof.Proof.Gen.Inproj.Frame
public import proofs.«01_k».proof.Proof.Gen.InprojReferenceIdeal.Run
public import proofs.«01_k».proof.Proof.InprojEquation
public import proofs.«01_k».proof.Proof.Gen.Outproj.Frame
public import proofs.«01_k».proof.Proof.Gen.OutprojReferenceIdeal.Run
public import proofs.«01_k».proof.Proof.OutprojEquation
public import proofs.«01_k».proof.Proof.Gen.Gmlp.Frame
public import proofs.«01_k».proof.Proof.Gen.GmlpReferenceIdeal.Run
public import proofs.«01_k».proof.Proof.GmlpValue
public import proofs.«01_k».proof.Proof.ExpertsEquation
public import proofs.«01_k».proof.Proof.Gen.Experts
public import proofs.«01_k».proof.Proof.Gen.Pre_tables_in_range
public import proofs.«01_k».proof.Proof.Gen.Ssd.Frame
public import proofs.«01_k».proof.Proof.Gen.SsdIdeal.Value
public import proofs.«01_k».proof.Proof.Gen.SsdReferenceIdeal.Run
public import proofs.«01_k».proof.Proof.Gen.SsdReferenceIdeal.Read
public import proofs.«01_k».proof.Proof.SsdValue
public import Idealize.ShloMosaic.Adequacy
public import Idealize.ShloMosaic.Init

@[expose] public section

noncomputable section

namespace Cert.Proof

open Idealize.ShloMosaic Idealize.SL.Sem

/-- The input projection's seven results are the reference's. -/
theorem inproj_value : Cert.algebraic_InprojIdeal_InprojReferenceIdeal := by
  pair_intro
  · run_from Cert.InprojIdeal.Value.run_blocks m g
  · run_from Cert.InprojReferenceIdeal.Value.run m' g'
    · exact (Cert.InprojEquation.eq_xbc m c).symm
    · exact (Cert.InprojEquation.eq_z m c).symm
    · exact (Cert.InprojEquation.eq_u m c).symm
    · exact (Cert.InprojEquation.eq_v m c).symm
    · exact (Cert.InprojEquation.eq_qkv m c).symm
    · exact (Cert.InprojEquation.eq_gg m c).symm
    · rw [Cert.InprojReferenceIdeal.Read.val_main_v35_eq, (hagree c).1, (hagree c).2.1, (hagree c).2.2.1, (hagree c).2.2.2.1, (hagree c).2.2.2.2]
      exact (Cert.InprojEquation.eq_small m c).symm

/-- The input projection's reference ends with its arguments as they were and no semaphore held. -/
theorem inproj_ref_frame : Cert.quiescent_InprojReferenceIdeal := by
  intro m ρ _
  refine θ_run_mono (Cert.InprojReferenceIdeal.Value.run m ρ) fun r h => ⟨fun c => ?_, Idealize.ShloMosaic.sem_eq_zero_of_no_sems (by decide) r.2⟩
  exact (h c).2.2.2.2.2.2.2

/-- The output projection's first two results are the reference's. -/
theorem outproj_value : Cert.algebraic_OutprojIdeal_OutprojReferenceIdeal := by
  pair_intro
  · run_from Cert.OutprojIdeal.Value.run_blocks m g
  · run_from Cert.OutprojReferenceIdeal.Value.run m' g'
    · rw [Cert.OutprojReferenceIdeal.Read.val_main_v29_eq, (hagree c).2.1, (hagree c).2.2.1, (hagree c).2.2.2.1]
      exact (Cert.OutprojEquation.eq_resid m c).symm
    · rw [Cert.OutprojReferenceIdeal.Read.val_main_v30_eq, (hagree c).2.1, (hagree c).2.2.1, (hagree c).2.2.2.1]
      exact (Cert.OutprojEquation.eq_hid m c).symm

/-- The output projection's reference ends with its arguments as they were and no semaphore held. -/
theorem outproj_ref_frame : Cert.quiescent_OutprojReferenceIdeal := by
  intro m ρ _
  refine θ_run_mono (Cert.OutprojReferenceIdeal.Value.run m ρ) fun r h => ⟨fun c => (h c).2.2, Idealize.ShloMosaic.sem_eq_zero_of_no_sems (by decide) r.2⟩

/-- The gated spatial unit's two results are the reference's. -/
theorem gmlp_value : Cert.algebraic_GmlpIdeal_GmlpReferenceIdeal := by
  pair_intro
  · run_from Cert.GmlpIdeal.Value.run_blocks m g
  · run_from Cert.GmlpReferenceIdeal.Value.run m' g'
    · rw [Cert.GmlpReferenceIdeal.Read.val_main_v69_eq, (hagree c).1, (hagree c).2.1, (hagree c).2.2.1, (hagree c).2.2.2.1, (hagree c).2.2.2.2.1, (hagree c).2.2.2.2.2]
      exact (Cert.GmlpEquation.eq_out m c).symm
    · rw [Cert.GmlpReferenceIdeal.Read.val_main_v70_eq, (hagree c).2.1, (hagree c).2.2.1, (hagree c).2.2.2.1]
      exact (Cert.GmlpEquation.eq_norm m c).symm

/-- The gated spatial unit's reference ends with its arguments as they were and no semaphore held. -/
theorem gmlp_ref_frame : Cert.quiescent_GmlpReferenceIdeal := by
  intro m ρ _
  refine θ_run_mono (Cert.GmlpReferenceIdeal.Value.run m ρ) fun r h => ⟨fun c => (h c).2.2, Idealize.ShloMosaic.sem_eq_zero_of_no_sems (by decide) r.2⟩

/-- The SSD's final state and the tail of its convolution are the reference's. -/
theorem ssd_value : Cert.algebraic_SsdIdeal_SsdReferenceIdeal := by
  pair_intro
  · run_from Cert.SsdIdeal.Value.run_blocks m g
  · run_from Cert.SsdReferenceIdeal.Value.run m' g'
    · rw [Cert.SsdReferenceIdeal.Read.val_main_v73_eq, (hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
      exact (Cert.SsdEquation.eq_state m c).symm
    · rw [(hagree c).2.2.2.2.1]
      exact (Cert.SsdEquation.eq_tail m c).symm

/-- The SSD's reference ends with its arguments as they were and no semaphore held. -/
theorem ssd_ref_frame : Cert.quiescent_SsdReferenceIdeal := by
  intro m ρ _
  refine θ_run_mono (Cert.SsdReferenceIdeal.Value.run m ρ) fun r h => ⟨fun c => (h c).2.2, Idealize.ShloMosaic.sem_eq_zero_of_no_sems (by decide) r.2⟩

theorem claim : Cert.Claim := ⟨Cert.Inproj.Gen.facts, Cert.InprojIdeal.Gen.facts, Cert.InprojReferenceIdeal.Gen.facts,
  Cert.Experts.Gen.facts, Cert.ExpertsIdeal.Gen.facts, Cert.ExpertsReferenceIdeal.Gen.facts,
  Cert.Outproj.Gen.facts, Cert.OutprojIdeal.Gen.facts, Cert.OutprojReferenceIdeal.Gen.facts,
  Cert.Gmlp.Gen.facts, Cert.GmlpIdeal.Gen.facts, Cert.GmlpReferenceIdeal.Gen.facts,
  Cert.Ssd.Gen.facts, Cert.SsdIdeal.Gen.facts, Cert.SsdReferenceIdeal.Gen.facts, Cert.Pre_tables_in_range.Gen.facts,
  fun m ρ _ => Cert.Inproj.Gen.frame m ρ, fun m ρ _ => Cert.InprojIdeal.Gen.frame m ρ, inproj_ref_frame,
  Range.experts_frame, Range.expertsIdeal_frame, Range.experts_ref_frame, Range.experts_ref_frame_pre,
  fun m ρ _ => Cert.Outproj.Gen.frame m ρ, fun m ρ _ => Cert.OutprojIdeal.Gen.frame m ρ, outproj_ref_frame,
  fun m ρ _ => Cert.Gmlp.Gen.frame m ρ, fun m ρ _ => Cert.GmlpIdeal.Gen.frame m ρ, gmlp_ref_frame,
  fun m ρ _ => Cert.Ssd.Gen.frame m ρ, fun m ρ _ => Cert.SsdIdeal.Gen.frame m ρ, ssd_ref_frame,
  trivial, inproj_value, trivial, Range.experts_value, trivial, outproj_value, trivial, gmlp_value, trivial, ssd_value⟩

end Cert.Proof

end
